-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebook [hPre_finite_codebook : Cert.Pre_finite_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebook [hPre_finite_codebook : Cert.Pre_finite_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codebook [hKernelIdeal : Cert.KernelIdeal.Facts] [hPre_finite_codebook : Cert.Pre_finite_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebook m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codebook [hReferenceIdeal : Cert.ReferenceIdeal.Facts] [hPre_finite_codebook : Cert.Pre_finite_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codebook [hKernelIdeal : Cert.KernelIdeal.Facts] [hReferenceIdeal : Cert.ReferenceIdeal.Facts] [hPre_finite_codebook : Cert.Pre_finite_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codebook : Cert.Pre_finite_codebook.Facts),
    quiescent_Kernel (hKernel := hKernel)
    ∧ quiescent_KernelIdeal (hKernelIdeal := hKernelIdeal)
    ∧ quiescent_KernelIdeal_pre_finite_codebook (hKernelIdeal := hKernelIdeal) (hPre_finite_codebook := hPre_finite_codebook)
    ∧ quiescent_ReferenceIdeal (hReferenceIdeal := hReferenceIdeal)
    ∧ quiescent_ReferenceIdeal_pre_finite_codebook (hReferenceIdeal := hReferenceIdeal) (hPre_finite_codebook := hPre_finite_codebook)
    ∧ preserves_Kernel_KernelIdeal
    ∧ algebraic_KernelIdeal_ReferenceIdeal_pre_finite_codebook (hKernelIdeal := hKernelIdeal) (hReferenceIdeal := hReferenceIdeal) (hPre_finite_codebook := hPre_finite_codebook)
-- ==== Pre_finite_codebook.lean ====
abbrev S64x1024x32 : Shape := ⟨3, ![64, 1024, 32]⟩
abbrev S1024x32 : Shape := ⟨2, ![1024, 32]⟩
abbrev S_ : Shape := ⟨0, ![]⟩

class Facts : Prop where
  bcast_S_S1024x32 : S_.BroadcastsInDim S1024x32 (![] : Fin 0 → Fin S1024x32.rank)

variable [Facts]

def fn {F : FTy → Type} [FloatOps F] (main_arg0 : FVec F S64x1024x32 .f32) (main_arg1 : FVec F S1024x32 .f32) : IVec S1024x32 1 :=
  let main_v0 : FVec F S1024x32 .f32 := Host.absf main_arg1
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  main_v2
-- ==== Kernel.lean ====
abbrev S64x1024x32 : Shape := ⟨3, ![64, 1024, 32]⟩
abbrev S1024x32 : Shape := ⟨2, ![1024, 32]⟩
abbrev S64x32x1024 : Shape := ⟨3, ![64, 32, 1024]⟩
abbrev S_ : Shape := ⟨0, ![]⟩
abbrev S1024 : Shape := ⟨1, ![1024]⟩
abbrev S1024x1 : Shape := ⟨2, ![1024, 1]⟩
abbrev S96x1024 : Shape := ⟨2, ![96, 1024]⟩
abbrev S32x1024 : Shape := ⟨2, ![32, 1024]⟩
abbrev S256x1024 : Shape := ⟨2, ![256, 1024]⟩
abbrev S1x1 : Shape := ⟨2, ![1, 1]⟩
abbrev S2x32x1024 : Shape := ⟨3, ![2, 32, 1024]⟩
abbrev S1x32x1024 : Shape := ⟨3, ![1, 32, 1024]⟩
abbrev S32x2048 : Shape := ⟨2, ![32, 2048]⟩
abbrev S2048 : Shape := ⟨1, ![2048]⟩
abbrev S1x2048 : Shape := ⟨2, ![1, 2048]⟩
abbrev S1024x2048 : Shape := ⟨2, ![1024, 2048]⟩
abbrev S256x2048 : Shape := ⟨2, ![256, 2048]⟩
abbrev S1x32x2048 : Shape := ⟨3, ![1, 32, 2048]⟩
abbrev S1 : Shape := ⟨1, ![1]⟩
abbrev S1x1x1 : Shape := ⟨3, ![1, 1, 1]⟩
abbrev S1x1024x1 : Shape := ⟨3, ![1, 1024, 1]⟩

abbrev nBuf : Space → Nat
  | .hbm => 24
  | .vmem => 8
  | .smem => 3
  | _ => 0

abbrev bufTy : (tb : Table) → Fin (tcTables nBuf tb) → BufTy
  | .hbm, ⟨0, _⟩ => ⟨S64x1024x32, .f32⟩
  | .hbm, ⟨1, _⟩ => ⟨S1024x32, .f32⟩
  | .hbm, ⟨2, _⟩ => ⟨S64x32x1024, .f32⟩
  | .hbm, ⟨3, _⟩ => ⟨S1024x32, .f32⟩
  | .hbm, ⟨4, _⟩ => ⟨S1024x32, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32, .bf16⟩
  | .hbm, ⟨9, _⟩ => ⟨S1024x32, .f32⟩
  | .hbm, ⟨10, _⟩ => ⟨S1024x32, .f32⟩
  | .hbm, ⟨11, _⟩ => ⟨S1024x32, .bf16⟩
  | .hbm, ⟨12, _⟩ => ⟨S_, .bf16⟩
  | .hbm, ⟨13, _⟩ => ⟨S96x1024, .bf16⟩
  | .hbm, ⟨14, _⟩ => ⟨S1024x32, .bf16⟩
  | .hbm, ⟨15, _⟩ => ⟨S32x1024, .bf16⟩
  | .hbm, ⟨16, _⟩ => ⟨S32x1024, .bf16⟩
  | .hbm, ⟨17, _⟩ => ⟨S256x1024, .bf16⟩
  | .hbm, ⟨18, _⟩ => ⟨S64x32x1024, .f32⟩
  | .hbm, ⟨19, _⟩ => ⟨S1x1, .f32⟩
  | .hbm, ⟨20, _⟩ => ⟨S1x1, .f32⟩
  | .hbm, ⟨21, _⟩ => ⟨S64x1024x32, .f32⟩
  | .hbm, ⟨22, _⟩ => ⟨S_, .f32⟩
  | .hbm, ⟨23, _⟩ => ⟨S_, .f32⟩
  | .local _ .vmem, ⟨0, _⟩ => ⟨S2x32x1024, .f32⟩
  | .local _ .vmem, ⟨1, _⟩ => ⟨S2x32x1024, .f32⟩
  | .local _ .vmem, ⟨2, _⟩ => ⟨S1024x1, .f32⟩
  | .local _ .vmem, ⟨3, _⟩ => ⟨S1024x32, .f32⟩
  | .local _ .vmem, ⟨4, _⟩ => ⟨S256x1024, .bf16⟩
  | .local _ .vmem, ⟨5, _⟩ => ⟨S2x32x1024, .f32⟩
  | .local _ .vmem, ⟨6, _⟩ => ⟨S2x32x1024, .f32⟩
  | .local _ .vmem, ⟨7, _⟩ => ⟨S1024x1, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg5_0 : Ref sig .tc := ⟨.smem, 0, rfl⟩
abbrev cc0_stg6_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v66 : BitVec 1 := Scalar.cmpi .eq arg0 c31_i32
  let v67 : BitVec 32 := Scalar.extui v66
  let c0_i32_33 : BitVec 32 := 0#32
  let v68 : BitVec 1 := Scalar.cmpi .ne v67 c0_i32_33
  v68

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x1024x32 : Shape := ⟨3, ![64, 1024, 32]⟩
abbrev S1024x32 : Shape := ⟨2, ![1024, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S32x1024 : Shape := ⟨2, ![32, 1024]⟩
abbrev S65536x1024 : Shape := ⟨2, ![65536, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S1024x32, .f32⟩
  | .hbm, ⟨2, _⟩ => ⟨S65536x32, .f32⟩
  | .hbm, ⟨3, _⟩ => ⟨S65536x32, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x32, .f32⟩
  | .hbm, ⟨9, _⟩ => ⟨S65536x32, .f32⟩
  | .hbm, ⟨10, _⟩ => ⟨S32x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S1024x32, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x1024, .i32⟩
  | .hbm, ⟨22, _⟩ => ⟨S_, .f32⟩
  | .hbm, ⟨23, _⟩ => ⟨S_, .i32⟩
  | .hbm, ⟨24, _⟩ => ⟨S65536, .f32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S1, .i32⟩
  | .hbm, ⟨35, _⟩ => ⟨S_, .i32⟩
  | .hbm, ⟨36, _⟩ => ⟨S65536x1, .i32⟩
  | .hbm, ⟨37, _⟩ => ⟨S65536x1, .i1⟩
  | .hbm, ⟨38, _⟩ => ⟨S1x1, .i32⟩
  | .hbm, ⟨39, _⟩ => ⟨S65536x1, .i32⟩
  | .hbm, ⟨40, _⟩ => ⟨S65536x1, .i1⟩
  | .hbm, ⟨41, _⟩ => ⟨S65536x1, .i1⟩
  | .hbm, ⟨42, _⟩ => ⟨S_, .i1⟩
  | .hbm, ⟨43, _⟩ => ⟨S65536, .i1⟩
  | .hbm, ⟨44, _⟩ => ⟨S65536x32, .f32⟩
  | .hbm, ⟨45, _⟩ => ⟨S65536x32, .i1⟩
  | .hbm, ⟨46, _⟩ => ⟨S_, .f32⟩
  | .hbm, ⟨47, _⟩ => ⟨S65536x32, .f32⟩
  | .hbm, ⟨48, _⟩ => ⟨S65536x32, .f32⟩
  | .hbm, ⟨49, _⟩ => ⟨S64x1024x32, .f32⟩
  | .hbm, ⟨50, _⟩ => ⟨S64x1024x32, .f32⟩
  | .hbm, ⟨51, _⟩ => ⟨S64x1024x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S64x1024x32, .f32⟩
  | .hbm, ⟨57, _⟩ => ⟨S64x1024x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S64x1024x32, .f32⟩
  | .hbm, ⟨66, _⟩ => ⟨S64x1024x32, .f32⟩
  | .hbm, ⟨67, _⟩ => ⟨S65536x1, .i32⟩
  | .hbm, ⟨68, _⟩ => ⟨S1x1024, .i32⟩
  | .hbm, ⟨69, _⟩ => ⟨S65536x1024, .i32⟩
  | .hbm, ⟨70, _⟩ => ⟨S65536x1024, .i32⟩
  | .hbm, ⟨71, _⟩ => ⟨S65536x1024, .i1⟩
  | .hbm, ⟨72, _⟩ => ⟨S65536x1024, .f32⟩
  | .hbm, ⟨73, _⟩ => ⟨S_, .f32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v31 : Ref sig .tc := ⟨.hbm, 72, rfl⟩
abbrev main_cst_7 : Ref sig .tc := ⟨.hbm, 73, rfl⟩
abbrev main_v32 : Ref sig .tc := ⟨.hbm, 74, rfl⟩
abbrev main_cst_8 : Ref sig .tc := ⟨.hbm, 75, rfl⟩
abbrev main_v33 : Ref sig .tc := ⟨.hbm, 76, rfl⟩
abbrev main_v34 : Ref sig .tc := ⟨.hbm, 77, rfl⟩
abbrev main_cst_9 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_10 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩

abbrev nD : Nat := 1
abbrev τ : Topo := Topo.v7x

variable {F : FTy → Type} [FloatOps F]
-- ==== Proof.RefRun.lean ====
/- The reference's run, by hand: @main is a straight line of 85 host operations, cut into five stages (the squared
   distances; the arg-min; the gathered rows; the loss and the straight-through output; the counts and the perplexity),
   and each stage's result is a named function of what the stage reads. -/
module

public import proofs.«01_k».proof.ReferenceIdeal
public import proofs.«01_k».proof.Proof.Gen.ReferenceIdeal
public import Idealize.ShloMosaic.Lib.Claim

@[expose] public section

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The operations of @main that compute the squared distances. -/
abbrev opsDist : List (HloOp τ sig (Elt F)) :=
  [ reshape main_arg0 main_v0 (rfl : (.f32 : EltTy) = .f32) shapeCasts_S64x1024x32_S65536x32,
    binary main_v0 main_v0 main_v1 (mulf : (⟨S65536x32, .f32⟩ : BufTy).Contents (Elt F) → (⟨S65536x32, .f32⟩ : BufTy).Contents (Elt F) → (⟨S65536x32, .f32⟩ : BufTy).Contents (Elt F)),
    nullary main_cst (constant S_ .f32 0x00000000#32),
    binary main_v1 main_cst main_v2 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v2 main_v3 (broadcastInDim S65536x1 ![0] bcast_S65536_S65536x1_0 : (⟨S65536, .f32⟩ : BufTy).Contents (Elt F) → (⟨S65536x1, .f32⟩ : BufTy).Contents (Elt F)),
    nullary main_cst_0 (constant S_ .f32 0x40000000#32),
    unary main_cst_0 main_v4 (broadcastInDim S65536x32 ![] bcast_S_S65536x32 : (⟨S_, .f32⟩ : BufTy).Contents (Elt F) → (⟨S65536x32, .f32⟩ : BufTy).Contents (Elt F)),
    binary main_v4 main_v0 main_v5 (mulf : (⟨S65536x32, .f32⟩ : BufTy).Contents (Elt F) → (⟨S65536x32, .f32⟩ : BufTy).Contents (Elt F) → (⟨S65536x32, .f32⟩ : BufTy).Contents (Elt F)),
    unary main_arg1 main_v6 ((transpose S32x1024 [1, 0] · transposes_S1024x32_S32x1024_1_0) : (⟨S1024x32, .f32⟩ : BufTy).Contents (Elt F) → (⟨S32x1024, .f32⟩ : BufTy).Contents (Elt F)),
    binary main_v5 main_v6 main_v7 ((fun l r => Host.dotGeneral dot_S65536x32_S32x1024_S65536x1024_1_0_0_1_n_n none l r) : (⟨S65536x32, .f32⟩ : BufTy).Contents (Elt F) → (⟨S32x1024, .f32⟩ : BufTy).Contents (Elt F) → (⟨S65536x1024, .f32⟩ : BufTy).Contents (Elt F)),
    unary main_v3 main_v8 (broadcastInDim S65536x1024 ![0, 1] bcast_S65536x1_S65536x1024_0_1 : (⟨S65536x1, .f32⟩ : BufTy).Contents (Elt F) → (⟨S65536x1024, .f32⟩ : BufTy).Contents (Elt F)),
    binary main_v8 main_v7 main_v9 (subf : (⟨S65536x1024, .f32⟩ : BufTy).Contents (Elt F) → (⟨S65536x1024, .f32⟩ : BufTy).Contents (Elt F) → (⟨S65536x1024, .f32⟩ : BufTy).Contents (Elt F)),
    binary main_arg1 main_arg1 main_v10 (mulf : (⟨S1024x32, .f32⟩ : BufTy).Contents (Elt F) → (⟨S1024x32, .f32⟩ : BufTy).Contents (Elt F) → (⟨S1024x32, .f32⟩ : BufTy).Contents (Elt F)),
    nullary main_cst_1 (constant S_ .f32 0x00000000#32),
    binary main_v10 main_cst_1 main_v11 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v11 main_v12 (broadcastInDim S1024x1 ![0] bcast_S1024_S1024x1_0 : (⟨S1024, .f32⟩ : BufTy).Contents (Elt F) → (⟨S1024x1, .f32⟩ : BufTy).Contents (Elt F)),
    unary main_v12 main_v13 ((transpose S1x1024 [1, 0] · transposes_S1024x1_S1x1024_1_0) : (⟨S1024x1, .f32⟩ : BufTy).Contents (Elt F) → (⟨S1x1024, .f32⟩ : BufTy).Contents (Elt F)),
    unary main_v13 main_v14 (broadcastInDim S65536x1024 ![0, 1] bcast_S1x1024_S65536x1024_0_1 : (⟨S1x1024, .f32⟩ : BufTy).Contents (Elt F) → (⟨S65536x1024, .f32⟩ : BufTy).Contents (Elt F)),
    binary main_v9 main_v14 main_v15 (addf : (⟨S65536x1024, .f32⟩ : BufTy).Contents (Elt F) → (⟨S65536x1024, .f32⟩ : BufTy).Contents (Elt F) → (⟨S65536x1024, .f32⟩ : BufTy).Contents (Elt F)) ]

/-- The operations of @main that compute the arg-min of each row. -/
abbrev opsArg : List (HloOp τ sig (Elt F)) :=
  [ TRef.nullary (TRef.of (T := ⟨S65536x1024, .i32⟩) main_call0_v0) (iotaInDim S65536x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x1024, .f32⟩) main_v15) (TRef.of (T := ⟨S65536x1024, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x1024_S65536_d1 h_S_ j).1),
    TRef.quaternary (TRef.of (T := ⟨S65536x1024, .f32⟩) main_v15) (TRef.of (T := ⟨S65536x1024, .i32⟩) main_call0_v0) (TRef.of (T := ⟨S_, .f32⟩) main_call0_cst) (TRef.of (T := ⟨S_, .i32⟩) main_call0_c) (TRef.of (T := ⟨S65536, .i32⟩) main_v16) (fun x y u v j => (Host.argReduce reducer_argmin_f32_i32 x y u v reducesTo_S65536x1024_S65536_d1 h_S_ j).2) ]

/-- The operations of @main that compute the gathered code rows. -/
abbrev opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S65536, .i32⟩) main_call1_v0) (broadcastInDim S65536 ![] bcast_S_S65536),
    TRef.binary (TRef.of (T := ⟨S65536, .i32⟩) main_v16) (TRef.of (T := ⟨S65536, .i32⟩) main_call1_v0) (TRef.of (T := ⟨S65536, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S65536, .i32⟩) main_call1_v2) (broadcastInDim S65536 ![] bcast_S_S65536),
    TRef.binary (TRef.of (T := ⟨S65536, .i32⟩) main_v16) (TRef.of (T := ⟨S65536, .i32⟩) main_call1_v2) (TRef.of (T := ⟨S65536, .i32⟩) main_call1_v3) addi,
    TRef.ternary (TRef.of (T := ⟨S65536, .i1⟩) main_call1_v1) (TRef.of (T := ⟨S65536, .i32⟩) main_call1_v3) (TRef.of (T := ⟨S65536, .i32⟩) main_v16) (TRef.of (T := ⟨S65536, .i32⟩) main_call1_v4) select,
    TRef.unary (TRef.of (T := ⟨S65536, .i32⟩) main_call1_v4) (TRef.of (T := ⟨S65536x1, .i32⟩) main_call1_v5) (broadcastInDim S65536x1 ![0] bcast_S65536_S65536x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S65536x1, .i32⟩) main_call1_v6) (broadcastInDim S65536x1 ![] bcast_S_S65536x1),
    TRef.binary (TRef.of (T := ⟨S65536x1, .i32⟩) main_call1_v5) (TRef.of (T := ⟨S65536x1, .i32⟩) main_call1_v6) (TRef.of (T := ⟨S65536x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S65536x1, .i32⟩) main_call1_v9) (broadcastInDim S65536x1 ![0, 1] bcast_S1x1_S65536x1_0_1),
    TRef.binary (TRef.of (T := ⟨S65536x1, .i32⟩) main_call1_v5) (TRef.of (T := ⟨S65536x1, .i32⟩) main_call1_v9) (TRef.of (T := ⟨S65536x1, .i1⟩) main_call1_v10) (cmpi .sle),
    TRef.binary (TRef.of (T := ⟨S65536x1, .i1⟩) main_call1_v7) (TRef.of (T := ⟨S65536x1, .i1⟩) main_call1_v10) (TRef.of (T := ⟨S65536x1, .i1⟩) main_call1_v11) andi,
    TRef.nullary (TRef.of (T := ⟨S_, .i1⟩) main_call1_c_3) (constantI S_ 1 1#1),
    TRef.binary (TRef.of (T := ⟨S65536x1, .i1⟩) main_call1_v11) (TRef.of (T := ⟨S_, .i1⟩) main_call1_c_3) (TRef.of (T := ⟨S65536, .i1⟩) main_call1_v12) (fun x v => Host.reduce IntOp.andi x v reducesTo_S65536x1_S65536_d1 h_S_),
    TRef.binary (TRef.of (T := ⟨S1024x32, .f32⟩) main_arg1) (TRef.of (T := ⟨S65536x1, .i32⟩) main_call1_v5) (TRef.of (T := ⟨S65536x32, .f32⟩) main_call1_v13) (fun x i => Host.gather gather_S1024x32_S65536x1_S65536x32_1_0_n_n_0_1_132 x i),
    TRef.unary (TRef.of (T := ⟨S65536, .i1⟩) main_call1_v12) (TRef.of (T := ⟨S65536x32, .i1⟩) main_call1_v14) (broadcastInDim S65536x32 ![0] bcast_S65536_S65536x32_0),
    TRef.nullary (TRef.of (T := ⟨S_, .f32⟩) main_call1_cst) (constant S_ .f32 0x7FC00000#32),
    TRef.unary (TRef.of (T := ⟨S_, .f32⟩) main_call1_cst) (TRef.of (T := ⟨S65536x32, .f32⟩) main_call1_v15) (broadcastInDim S65536x32 ![] bcast_S_S65536x32),
    TRef.ternary (TRef.of (T := ⟨S65536x32, .i1⟩) main_call1_v14) (TRef.of (T := ⟨S65536x32, .f32⟩) main_call1_v13) (TRef.of (T := ⟨S65536x32, .f32⟩) main_call1_v15) (TRef.of (T := ⟨S65536x32, .f32⟩) main_v17) select ]

/-- The operations of @main that compute the loss and the straight-through output. -/
abbrev opsLoss : List (HloOp τ sig (Elt F)) :=
  [ reshape main_v17 main_v18 (rfl : (.f32 : EltTy) = .f32) shapeCasts_S65536x32_S64x1024x32,
    binary main_v18 main_arg0 main_v19 (subf : (⟨S64x1024x32, .f32⟩ : BufTy).Contents (Elt F) → (⟨S64x1024x32, .f32⟩ : BufTy).Contents (Elt F) → (⟨S64x1024x32, .f32⟩ : BufTy).Contents (Elt F)),
    binary main_v19 main_v19 main_v20 (mulf : (⟨S64x1024x32, .f32⟩ : BufTy).Contents (Elt F) → (⟨S64x1024x32, .f32⟩ : BufTy).Contents (Elt F) → (⟨S64x1024x32, .f32⟩ : BufTy).Contents (Elt F)),
    nullary main_cst_2 (constant S_ .f32 0x00000000#32),
    binary main_v20 main_cst_2 main_v21 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_3 (constant S_ .f32 0x4A000000#32),
    binary main_v21 main_cst_3 main_v22 (Host.divf : (⟨S_, .f32⟩ : BufTy).Contents (Elt F) → (⟨S_, .f32⟩ : BufTy).Contents (Elt F) → (⟨S_, .f32⟩ : BufTy).Contents (Elt F)),
    binary main_v18 main_arg0 main_v23 (subf : (⟨S64x1024x32, .f32⟩ : BufTy).Contents (Elt F) → (⟨S64x1024x32, .f32⟩ : BufTy).Contents (Elt F) → (⟨S64x1024x32, .f32⟩ : BufTy).Contents (Elt F)),
    binary main_v23 main_v23 main_v24 (mulf : (⟨S64x1024x32, .f32⟩ : BufTy).Contents (Elt F) → (⟨S64x1024x32, .f32⟩ : BufTy).Contents (Elt F) → (⟨S64x1024x32, .f32⟩ : BufTy).Contents (Elt F)),
    nullary main_cst_4 (constant S_ .f32 0x00000000#32),
    binary main_v24 main_cst_4 main_v25 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_5 (constant S_ .f32 0x4A000000#32),
    binary main_v25 main_cst_5 main_v26 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v26 main_v27 (mulf : (⟨S_, .f32⟩ : BufTy).Contents (Elt F) → (⟨S_, .f32⟩ : BufTy).Contents (Elt F) → (⟨S_, .f32⟩ : BufTy).Contents (Elt F)),
    binary main_v22 main_v27 main_v28 (addf : (⟨S_, .f32⟩ : BufTy).Contents (Elt F) → (⟨S_, .f32⟩ : BufTy).Contents (Elt F) → (⟨S_, .f32⟩ : BufTy).Contents (Elt F)),
    binary main_v18 main_arg0 main_v29 (subf : (⟨S64x1024x32, .f32⟩ : BufTy).Contents (Elt F) → (⟨S64x1024x32, .f32⟩ : BufTy).Contents (Elt F) → (⟨S64x1024x32, .f32⟩ : BufTy).Contents (Elt F)),
    binary main_arg0 main_v29 main_v30 (addf : (⟨S64x1024x32, .f32⟩ : BufTy).Contents (Elt F) → (⟨S64x1024x32, .f32⟩ : BufTy).Contents (Elt F) → (⟨S64x1024x32, .f32⟩ : BufTy).Contents (Elt F)) ]

/-- The operations of @main that compute the one-hot counts and the perplexity. -/
abbrev opsPerp : List (HloOp τ sig (Elt F)) :=
  [ TRef.unary (TRef.of (T := ⟨S65536, .i32⟩) main_v16) (TRef.of (T := ⟨S65536x1, .i32⟩) main_call2_v0) (broadcastInDim S65536x1 ![0] bcast_S65536_S65536x1_0),
    TRef.nullary (TRef.of (T := ⟨S1x1024, .i32⟩) main_call2_v1) (iotaInDim S1x1024 32 1),
    TRef.unary (TRef.of (T := ⟨S65536x1, .i32⟩) main_call2_v0) (TRef.of (T := ⟨S65536x1024, .i32⟩) main_call2_v2) (broadcastInDim S65536x1024 ![0, 1] bcast_S65536x1_S65536x1024_0_1),
    TRef.unary (TRef.of (T := ⟨S1x1024, .i32⟩) main_call2_v1) (TRef.of (T := ⟨S65536x1024, .i32⟩) main_call2_v3) (broadcastInDim S65536x1024 ![0, 1] bcast_S1x1024_S65536x1024_0_1),
    TRef.binary (TRef.of (T := ⟨S65536x1024, .i32⟩) main_call2_v2) (TRef.of (T := ⟨S65536x1024, .i32⟩) main_call2_v3) (TRef.of (T := ⟨S65536x1024, .i1⟩) main_call2_v4) (cmpi .eq),
    TRef.unary (TRef.of (T := ⟨S65536x1024, .i1⟩) main_call2_v4) (TRef.of (T := ⟨S65536x1024, .f32⟩) main_v31) (uitofp .f32),
    nullary main_cst_7 (constant S_ .f32 0x00000000#32),
    binary main_v31 main_cst_7 main_v32 ((fun x v => Host.reduceAdd x v reducesTo_S65536x1024_S1024_d0 h_S_) : (⟨S65536x1024, .f32⟩ : BufTy).Contents (Elt F) → (⟨S_, .f32⟩ : BufTy).Contents (Elt F) → (⟨S1024, .f32⟩ : BufTy).Contents (Elt F)),
    nullary main_cst_8 (constant S_ .f32 0x47800000#32),
    unary main_cst_8 main_v33 (broadcastInDim S1024 ![] bcast_S_S1024 : (⟨S_, .f32⟩ : BufTy).Contents (Elt F) → (⟨S1024, .f32⟩ : BufTy).Contents (Elt F)),
    binary main_v32 main_v33 main_v34 (Host.divf : (⟨S1024, .f32⟩ : BufTy).Contents (Elt F) → (⟨S1024, .f32⟩ : BufTy).Contents (Elt F) → (⟨S1024, .f32⟩ : BufTy).Contents (Elt F)),
    nullary main_cst_9 (constant S_ .f32 0x2EDBE6FF#32),
    unary main_cst_9 main_v35 (broadcastInDim S1024 ![] bcast_S_S1024 : (⟨S_, .f32⟩ : BufTy).Contents (Elt F) → (⟨S1024, .f32⟩ : BufTy).Contents (Elt F)),
    binary main_v34 main_v35 main_v36 (addf : (⟨S1024, .f32⟩ : BufTy).Contents (Elt F) → (⟨S1024, .f32⟩ : BufTy).Contents (Elt F) → (⟨S1024, .f32⟩ : BufTy).Contents (Elt F)),
    unary main_v36 main_v37 (Host.log : (⟨S1024, .f32⟩ : BufTy).Contents (Elt F) → (⟨S1024, .f32⟩ : BufTy).Contents (Elt F)),
    binary main_v34 main_v37 main_v38 (mulf : (⟨S1024, .f32⟩ : BufTy).Contents (Elt F) → (⟨S1024, .f32⟩ : BufTy).Contents (Elt F) → (⟨S1024, .f32⟩ : BufTy).Contents (Elt F)),
    nullary main_cst_10 (constant S_ .f32 0x00000000#32),
    binary main_v38 main_cst_10 main_v39 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v39 main_v40 (Host.negf : (⟨S_, .f32⟩ : BufTy).Contents (Elt F) → (⟨S_, .f32⟩ : BufTy).Contents (Elt F)),
    unary main_v40 main_v41 (Host.exp : (⟨S_, .f32⟩ : BufTy).Contents (Elt F) → (⟨S_, .f32⟩ : BufTy).Contents (Elt F)) ]

/-- The buffers that `opsDist` writes. -/
abbrev opsDistW : List (Ref sig .tc) := [main_v0, main_v1, main_cst, main_v2, main_v3, main_cst_0, main_v4, main_v5, main_v6, main_v7, main_v8, main_v9, main_v10, main_cst_1, main_v11, main_v12, main_v13, main_v14, main_v15]
/-- The buffers that `opsArg` writes. -/
abbrev opsArgW : List (Ref sig .tc) := [main_call0_v0, main_call0_cst, main_call0_c, main_call0_v1_0, main_v16]
/-- The buffers that `opsTake` writes. -/
abbrev opsTakeW : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v17]
/-- The buffers that `opsLoss` writes. -/
abbrev opsLossW : List (Ref sig .tc) := [main_v18, main_v19, main_v20, main_cst_2, main_v21, main_cst_3, main_v22, main_v23, main_v24, main_cst_4, main_v25, main_cst_5, main_v26, main_cst_6, main_v27, main_v28, main_v29, main_v30]
/-- The buffers that `opsPerp` writes. -/
abbrev opsPerpW : List (Ref sig .tc) := [main_call2_v0, main_call2_v1, main_call2_v2, main_call2_v3, main_call2_v4, main_v31, main_cst_7, main_v32, main_cst_8, main_v33, main_v34, main_cst_9, main_v35, main_v36, main_v37, main_v38, main_cst_10, main_v39, main_v40, main_v41]

/-- @main's operations, in order. -/
abbrev ops : List (HloOp τ sig (Elt F)) := opsDist ++ (opsArg ++ (opsTake ++ (opsLoss ++ opsPerp)))

set_option maxHeartbeats 1600000 in
/-- @main is the straight line of its operations. -/
theorem main_eq (c : Dev nD) : main (F := F) c = seq ops := rfl

/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig := by
  simp

/-- Every operation determines its result. -/
theorem ops_fresh : ∀ op ∈ (ops : List (HloOp τ sig (Elt F))), op.fresh = ∅ := by
  intro _ h; (repeat (cases h with | head => rfl | tail _ h => ?_)); exact nomatch h

/-! ## What each stage leaves -/

/-- The squared distances of every point (row) to every code (column), the terms in the reference's order. -/
def distT (x : FVec F S64x1024x32 .f32) (c : FVec F S1024x32 .f32) : FVec F S65536x1024 .f32 :=
  addf
    (subf
      (broadcastInDim S65536x1024 ![0, 1] bcast_S65536x1_S65536x1024_0_1 (broadcastInDim S65536x1 ![0] bcast_S65536_S65536x1_0
        (Host.reduceAdd (mulf (shapeCast S65536x32 x shapeCasts_S64x1024x32_S65536x32) (shapeCast S65536x32 x shapeCasts_S64x1024x32_S65536x32))
          (constant S_ .f32 0x00000000#32) reducesTo_S65536x32_S65536_d1 h_S_)))
      (Host.dotGeneral dot_S65536x32_S32x1024_S65536x1024_1_0_0_1_n_n none
        (mulf (broadcastInDim S65536x32 ![] bcast_S_S65536x32 (constant S_ .f32 0x40000000#32)) (shapeCast S65536x32 x shapeCasts_S64x1024x32_S65536x32))
        (transpose S32x1024 [1, 0] c transposes_S1024x32_S32x1024_1_0)))
    (broadcastInDim S65536x1024 ![0, 1] bcast_S1x1024_S65536x1024_0_1
      (transpose S1x1024 [1, 0]
        (broadcastInDim S1024x1 ![0] bcast_S1024_S1024x1_0
          (Host.reduceAdd (mulf c c) (constant S_ .f32 0x00000000#32) reducesTo_S1024x32_S1024_d1 h_S_))
        transposes_S1024x1_S1x1024_1_0))

/-- The index of the nearest code, per point. -/
def argT (d : FVec F S65536x1024 .f32) : IVec S65536 32 := fun j =>
  (Host.argReduce reducer_argmin_f32_i32 d (iotaInDim S65536x1024 32 1) (constant S_ .f32 0x7F800000#32) (constantI S_ 32 0#32)
    reducesTo_S65536x1024_S65536_d1 h_S_ j).2

/-- An index below zero counted from the end, as a column. -/
def wrapT (i : IVec S65536 32) : IVec S65536x1 32 :=
  broadcastInDim S65536x1 ![0] bcast_S65536_S65536x1_0
    (select (cmpi .slt i (broadcastInDim S65536 ![] bcast_S_S65536 (constantI S_ 32 0#32)))
      (addi i (broadcastInDim S65536 ![] bcast_S_S65536 (constantI S_ 32 1024#32))) i)

/-- The rows of the codebook at the indices, an index out of range giving a not-a-number row. -/
def takeT (c : FVec F S1024x32 .f32) (i : IVec S65536 32) : FVec F S65536x32 .f32 :=
  select
    (broadcastInDim S65536x32 ![0] bcast_S65536_S65536x32_0
      (Host.reduce IntOp.andi
        (andi (cmpi .sge (wrapT i) (broadcastInDim S65536x1 ![] bcast_S_S65536x1 (constantI S_ 32 0#32)))
          (cmpi .sle (wrapT i) (broadcastInDim S65536x1 ![0, 1] bcast_S1x1_S65536x1_0_1 (broadcastInDim S1x1 ![1] bcast_S1_S1x1_1 (constantI S1 32 1023#32)))))
        (constantI S_ 1 1#1) reducesTo_S65536x1_S65536_d1 h_S_))
    (Host.gather gather_S1024x32_S65536x1_S65536x32_1_0_n_n_0_1_132 c (wrapT i))
    (broadcastInDim S65536x32 ![] bcast_S_S65536x32 (constant S_ .f32 0x7FC00000#32))

/-- The gathered rows in the inputs' shape, less the inputs. -/
def diffT (x : FVec F S64x1024x32 .f32) (q : FVec F S65536x32 .f32) : FVec F S64x1024x32 .f32 :=
  subf (shapeCast S64x1024x32 q shapeCasts_S65536x32_S64x1024x32) x

/-- The mean of the squared differences. -/
def meanT (x : FVec F S64x1024x32 .f32) (q : FVec F S65536x32 .f32) : FVec F S_ .f32 :=
  Host.divf (Host.reduceAdd (mulf (diffT x q) (diffT x q)) (constant S_ .f32 0x00000000#32) reducesTo_S64x1024x32_S_d0_1_2 h_S_)
    (constant S_ .f32 0x4A000000#32)

/-- The loss: the mean, and a quarter of it added. -/
def lossT (x : FVec F S64x1024x32 .f32) (q : FVec F S65536x32 .f32) : FVec F S_ .f32 :=
  addf (meanT x q) (mulf (constant S_ .f32 0x3E800000#32) (meanT x q))

/-- The straight-through output. -/
def outT (x : FVec F S64x1024x32 .f32) (q : FVec F S65536x32 .f32) : FVec F S64x1024x32 .f32 := addf x (diffT x q)

/-- The share of the points at each code. -/
def probT (i : IVec S65536 32) : FVec F S1024 .f32 :=
  Host.divf
    (Host.reduceAdd
      (uitofp .f32 (cmpi .eq
        (broadcastInDim S65536x1024 ![0, 1] bcast_S65536x1_S65536x1024_0_1 (broadcastInDim S65536x1 ![0] bcast_S65536_S65536x1_0 i))
        (broadcastInDim S65536x1024 ![0, 1] bcast_S1x1024_S65536x1024_0_1 (iotaInDim S1x1024 32 1))))
      (constant S_ .f32 0x00000000#32) reducesTo_S65536x1024_S1024_d0 h_S_)
    (broadcastInDim S1024 ![] bcast_S_S1024 (constant S_ .f32 0x47800000#32))

/-- The perplexity of the shares. -/
def perpT (p : FVec F S1024 .f32) : FVec F S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-- A buffer that `opsDist` does not write keeps its contents through it. -/
theorem opsDist_keep (V : Valuation τ sig (Elt F)) (r : Ref sig .tc) (h : r ∉ opsDistW) :
    after opsDist V (Proc.devRef .tc r) = V (Proc.devRef .tc r) :=
  after_of_writes_sub opsDist V (forall_writes_sub_of_map rfl) h

/-- A buffer that `opsArg` does not write keeps its contents through it. -/
theorem opsArg_keep (V : Valuation τ sig (Elt F)) (r : Ref sig .tc) (h : r ∉ opsArgW) :
    after opsArg V (Proc.devRef .tc r) = V (Proc.devRef .tc r) :=
  after_of_writes_sub opsArg V (forall_writes_sub_of_map rfl) h

/-- A buffer that `opsTake` does not write keeps its contents through it. -/
theorem opsTake_keep (V : Valuation τ sig (Elt F)) (r : Ref sig .tc) (h : r ∉ opsTakeW) :
    after opsTake V (Proc.devRef .tc r) = V (Proc.devRef .tc r) :=
  after_of_writes_sub opsTake V (forall_writes_sub_of_map rfl) h

/-- A buffer that `opsLoss` does not write keeps its contents through it. -/
theorem opsLoss_keep (V : Valuation τ sig (Elt F)) (r : Ref sig .tc) (h : r ∉ opsLossW) :
    after opsLoss V (Proc.devRef .tc r) = V (Proc.devRef .tc r) :=
  after_of_writes_sub opsLoss V (forall_writes_sub_of_map rfl) h

/-- A buffer that `opsPerp` does not write keeps its contents through it. -/
theorem opsPerp_keep (V : Valuation τ sig (Elt F)) (r : Ref sig .tc) (h : r ∉ opsPerpW) :
    after opsPerp V (Proc.devRef .tc r) = V (Proc.devRef .tc r) :=
  after_of_writes_sub opsPerp V (forall_writes_sub_of_map rfl) h

set_option maxHeartbeats 1600000 in
/-- The first stage leaves the squared distances. -/
theorem dist_val (V : Valuation τ sig (Elt F)) : after opsDist V (Proc.devRef .tc main_v15) = distT (V (Proc.devRef .tc main_arg0)) (V (Proc.devRef .tc main_arg1)) := by
  simp only [opsDist, TRef.nullary, TRef.unary, TRef.binary, TRef.ternary, TRef.quaternary, TRef.toBuf, TRef.ofBuf, cast_eq]
  after_results_simp
  all_goals rfl

set_option maxHeartbeats 1600000 in
/-- The second stage leaves the arg-min. -/
theorem arg_val (V : Valuation τ sig (Elt F)) : after opsArg V (Proc.devRef .tc main_v16) = argT (V (Proc.devRef .tc main_v15)) := by
  simp only [opsArg, TRef.nullary, TRef.unary, TRef.binary, TRef.ternary, TRef.quaternary, TRef.toBuf, TRef.ofBuf, cast_eq]
  after_results_simp
  all_goals rfl

set_option maxHeartbeats 1600000 in
/-- The third stage leaves the gathered rows. -/
theorem take_val (V : Valuation τ sig (Elt F)) : after opsTake V (Proc.devRef .tc main_v17) = takeT (V (Proc.devRef .tc main_arg1)) (V (Proc.devRef .tc main_v16)) := by
  simp only [opsTake, TRef.nullary, TRef.unary, TRef.binary, TRef.ternary, TRef.quaternary, TRef.toBuf, TRef.ofBuf, cast_eq]
  after_results_simp
  all_goals rfl

set_option maxHeartbeats 1600000 in
/-- The fourth stage leaves the loss. -/
theorem loss_val (V : Valuation τ sig (Elt F)) : after opsLoss V (Proc.devRef .tc main_v28) = lossT (V (Proc.devRef .tc main_arg0)) (V (Proc.devRef .tc main_v17)) := by
  simp only [opsLoss, TRef.nullary, TRef.unary, TRef.binary, TRef.ternary, TRef.quaternary, TRef.toBuf, TRef.ofBuf, cast_eq]
  after_results_simp
  all_goals rfl

set_option maxHeartbeats 1600000 in
/-- The fourth stage leaves the straight-through output. -/
theorem out_val (V : Valuation τ sig (Elt F)) : after opsLoss V (Proc.devRef .tc main_v30) = outT (V (Proc.devRef .tc main_arg0)) (V (Proc.devRef .tc main_v17)) := by
  simp only [opsLoss, TRef.nullary, TRef.unary, TRef.binary, TRef.ternary, TRef.quaternary, TRef.toBuf, TRef.ofBuf, cast_eq]
  after_results_simp
  all_goals rfl

set_option maxHeartbeats 1600000 in
/-- The fifth stage leaves the perplexity. -/
theorem perp_val (V : Valuation τ sig (Elt F)) : after opsPerp V (Proc.devRef .tc main_v41) = perpT (probT (V (Proc.devRef .tc main_v16))) := by
  simp only [opsPerp, TRef.nullary, TRef.unary, TRef.binary, TRef.ternary, TRef.quaternary, TRef.toBuf, TRef.ofBuf, cast_eq]
  after_results_simp
  all_goals rfl

/-! ## The run -/

/-- The index of every point's code, of the arguments. -/
def idxT (x : FVec F S64x1024x32 .f32) (c : FVec F S1024x32 .f32) : IVec S65536 32 := argT (distT x c)

/-- The code of every point, of the arguments. -/
def codeT (x : FVec F S64x1024x32 .f32) (c : FVec F S1024x32 .f32) : FVec F S65536x32 .f32 := takeT c (idxT x c)

/-- On every device, from any memory with zero counters: @main terminates, its three results are the straight-through
    output, the loss and the perplexity as functions of the two arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = outT (m ((c.tc : Thread nD τ).loc main_arg0)) (codeT (m ((c.tc : Thread nD τ).loc main_arg0)) (m ((c.tc : Thread nD τ).loc main_arg1)))
      ∧ r.2.mem ((c.tc : Thread nD τ).loc main_v28)
          = lossT (m ((c.tc : Thread nD τ).loc main_arg0)) (codeT (m ((c.tc : Thread nD τ).loc main_arg0)) (m ((c.tc : Thread nD τ).loc main_arg1)))
      ∧ r.2.mem ((c.tc : Thread nD τ).loc main_v41)
          = perpT (probT (idxT (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_)
    (run_seq scopedRefs_eq scopedSems_eq defs main (fun _ => ops) main_eq (fun _ => ops_sub) m ρ fun _ => ops_fresh)
  have e : ∀ b : Ref sig .tc, r.2.mem ((c.tc : Thread nD τ).loc b)
      = after opsPerp (after opsLoss (after opsTake (after opsArg (after opsDist (launchContents m c))))) (Proc.devRef .tc b) := by
    intro b; rw [h c b]; simp only [ops, after_append]
  have a0 : ∀ V : Valuation τ sig (Elt F), after opsTake (after opsArg (after opsDist V)) (Proc.devRef .tc main_arg0) = V (Proc.devRef .tc main_arg0) := fun V => by
    rw [opsTake_keep _ _ (by decide), opsArg_keep _ _ (by decide), opsDist_keep _ _ (by decide)]
  have a1 : ∀ V : Valuation τ sig (Elt F), after opsArg (after opsDist V) (Proc.devRef .tc main_arg1) = V (Proc.devRef .tc main_arg1) := fun V => by
    rw [opsArg_keep _ _ (by decide), opsDist_keep _ _ (by decide)]
  refine ⟨?_, ?_, ?_, ?_, ?_⟩
  · rw [e, opsPerp_keep _ _ (by decide), out_val, take_val, a0, a1, arg_val, dist_val]; rfl
  · rw [e, opsPerp_keep _ _ (by decide), loss_val, take_val, a0, a1, arg_val, dist_val]; rfl
  · rw [e, perp_val, opsLoss_keep _ _ (by decide), opsTake_keep _ _ (by decide), arg_val, dist_val]; rfl
  · rw [e, opsPerp_keep _ _ (by decide), opsLoss_keep _ _ (by decide), a0]
  · rw [e, opsPerp_keep _ _ (by decide), opsLoss_keep _ _ (by decide), opsTake_keep _ _ (by decide), a1]

end Cert.ReferenceIdeal.Hand

end
-- ==== Proof.Frames.lean ====
/- The frames of the three programs, and the witness of the precondition's one stated fact. -/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof

open Idealize.ShloMosaic Idealize.SL.Sem

/-- The fact the precondition states: a scalar broadcasts to the codebook's shape. -/
theorem preFacts : Cert.Pre_finite_codebook.Facts := ⟨by decide⟩

/-- The reference runs from any memory, leaves its arguments as they were, and touches no counter. -/
theorem refFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => ⟨(h c).2.2.2.1, (h c).2.2.2.2⟩, sem_eq_zero_of_no_sems (by decide) r.2⟩)
    (Cert.ReferenceIdeal.Hand.run m g)

/-- Every frame the certificate states, and the statement about the idealization. -/
theorem frames : Cert.quiescent_Kernel ∧ Cert.quiescent_KernelIdeal ∧ Cert.quiescent_ReferenceIdeal ∧ Cert.preserves_Kernel_KernelIdeal :=
  ⟨fun m g _ => Cert.Kernel.Gen.frame m g, fun m g _ => Cert.KernelIdeal.Gen.frame m g, fun m g _ => refFrame m g, trivial⟩

end Cert.Proof

end
-- ==== Proof.Near.lean ====
/- The nearest code: the FIRST index of the least of a family of extended reals, and the two ways the programs find it —
   the least of the indices that reach the minimum (the kernel), and a running (value, index) pair over a list that
   starts at (+∞, 0) and keeps the lexicographically smaller pair (the reference). -/
module

public import Idealize.ShloMosaic.Lib.Claim
public import Idealize.ShloMosaic.Lib.Pointwise
public import Idealize.ShloMosaic.PureOps.Ideal.Laws

@[expose] public section

noncomputable section

namespace Cert.Near

open Idealize.ShloMosaic

variable {n : ℕ}

/-- `i` is the first index of the least value of `f`. -/
def IsFirst (f : Fin n → EReal) (i : Fin n) : Prop := (∀ k, f i ≤ f k) ∧ ∀ k, f k ≤ f i → i ≤ k

/-- Every nonempty family has a first index of its least value. -/
theorem exists_isFirst [NeZero n] (f : Fin n → EReal) : ∃ i, IsFirst f i := by
  classical
  obtain ⟨a, -, ha⟩ := Finset.exists_min_image (Finset.univ : Finset (Fin n)) f ⟨0, Finset.mem_univ _⟩
  have hne : (Finset.univ.filter fun k => f k ≤ f a).Nonempty := ⟨a, Finset.mem_filter.2 ⟨Finset.mem_univ _, le_rfl⟩⟩
  obtain ⟨i, hi, hmin⟩ := Finset.exists_min_image (Finset.univ.filter fun k => f k ≤ f a) id hne
  have hia : f i ≤ f a := (Finset.mem_filter.1 hi).2
  exact ⟨i, fun k => hia.trans (ha k (Finset.mem_univ _)),
    fun k hk => hmin k (Finset.mem_filter.2 ⟨Finset.mem_univ _, hk.trans hia⟩)⟩

/-- The first index of the least value. -/
def near [NeZero n] (f : Fin n → EReal) : Fin n := Classical.choose (exists_isFirst f)

/-- The nearest index is the first place of the minimum. -/
theorem near_isFirst [NeZero n] (f : Fin n → EReal) : IsFirst f (near f) := Classical.choose_spec (exists_isFirst f)

/-- The minimum of a family is its value at the nearest index. -/
theorem fold_min_eq [NeZero n] (f : Fin n → EReal) : Finset.fold min (⊤ : EReal) f Finset.univ = f (near f) := by
  apply le_antisymm
  · exact Finset.fold_min_le _ |>.2 (Or.inr ⟨near f, Finset.mem_univ _, le_rfl⟩)
  · exact Finset.le_fold_min _ |>.2 ⟨le_top, fun k _ => (near_isFirst f).1 k⟩

/-- The smaller of two words, read signed, is the smaller of the two readings. -/
theorem toInt_minsi (x y : BitVec 32) : (IntOp.minsi x y).toInt = min x.toInt y.toInt := by
  unfold IntOp.minsi
  by_cases h : x.slt y
  · rw [if_pos h, min_eq_left (le_of_lt (BitVec.slt_iff_toInt_lt.1 h))]
  · rw [if_neg h, min_eq_right (not_lt.1 fun h' => h (BitVec.slt_iff_toInt_lt.2 h'))]

/-- A small number's word reads back as the number. -/
theorem toInt_ofNat_small (k : ℕ) (h : k < 2 ^ 31) : (BitVec.ofNat 32 k).toInt = (k : ℤ) := by
  have e : (BitVec.ofNat 32 k).toNat = k := by rw [BitVec.toNat_ofNat]; exact Nat.mod_eq_of_lt (by omega)
  rw [BitVec.toInt_eq_toNat_of_lt (by omega), e]

/-- Words of small numbers are equal exactly where the numbers are. -/
theorem ofNat_inj_small {a b : ℕ} (ha : a < 2 ^ 31) (hb : b < 2 ^ 31) (h : BitVec.ofNat 32 a = BitVec.ofNat 32 b) : a = b := by
  have := congrArg BitVec.toInt h
  rw [toInt_ofNat_small a ha, toInt_ofNat_small b hb] at this
  exact_mod_cast this

/-- The kernel's index: the least of the indices whose value is the minimum (1024 elsewhere) is the nearest one. -/
theorem fold_minsi_eq (f : Fin 1024 → EReal) :
    Finset.fold IntOp.minsi (2147483647#32) (fun k : Fin 1024 => if f k = f (near f) then BitVec.ofNat 32 k.val else 1024#32) Finset.univ
      = BitVec.ofNat 32 (near f).val := by
  apply BitVec.eq_of_toInt_eq
  rw [toInt_ofNat_small _ (by omega), ← Finset.fold_hom (op' := min) (m := BitVec.toInt) (fun x y => toInt_minsi x y)]
  have hg : ∀ k : Fin 1024, (if f k = f (near f) then BitVec.ofNat 32 k.val else 1024#32).toInt
      = if f k = f (near f) then (k.val : ℤ) else 1024 := fun k => by
    split
    · exact toInt_ofNat_small _ (by omega)
    · decide
  apply le_antisymm
  · refine (Finset.fold_min_le _).2 (Or.inr ⟨near f, Finset.mem_univ _, ?_⟩)
    rw [hg, if_pos rfl]
  · refine (Finset.le_fold_min _).2 ⟨?_, fun k _ => ?_⟩
    · have := (near f).isLt
      have e : (2147483647#32).toInt = 2147483647 := by decide
      rw [e]; omega
    · rw [hg]
      split
      · rename_i h
        have := (near_isFirst f).2 k (le_of_eq h)
        exact_mod_cast (Fin.le_def.1 this)
      · have := (near f).isLt; omega

/-- The lexicographic order on (value, index) pairs, the index read signed. -/
def Le (p q : EReal × BitVec 32) : Prop := p.1 < q.1 ∨ p.1 = q.1 ∧ p.2.toInt ≤ q.2.toInt

/-- The order is reflexive. -/
theorem Le.refl (p : EReal × BitVec 32) : Le p p := Or.inr ⟨rfl, le_rfl⟩

/-- The order is transitive. -/
theorem Le.trans {p q r : EReal × BitVec 32} (h : Le p q) (h' : Le q r) : Le p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A fold that keeps one of its two operands, the smaller, ends with a smallest of all it has met. -/
theorem foldl_spec (f : EReal × BitVec 32 → EReal × BitVec 32 → EReal × BitVec 32)
    (hf : ∀ a b, f a b = a ∨ f a b = b) (hl : ∀ a b, Le (f a b) a) (hr : ∀ a b, Le (f a b) b) :
    ∀ (l : List (EReal × BitVec 32)) (a : EReal × BitVec 32),
      (l.foldl f a = a ∨ l.foldl f a ∈ l) ∧ Le (l.foldl f a) a ∧ ∀ p ∈ l, Le (l.foldl f a) p
  | [], a => ⟨Or.inl rfl, Le.refl a, fun _ h => nomatch h⟩
  | b :: l, a => by
    obtain ⟨h1, h2, h3⟩ := foldl_spec f hf hl hr l (f a b)
    refine ⟨?_, h2.trans (hl a b), fun p hp => ?_⟩
    · rcases h1 with h1 | h1
      · rcases hf a b with e | e
        · exact Or.inl (h1.trans e)
        · exact Or.inr (List.mem_cons.2 (Or.inl (h1.trans e)))
      · exact Or.inr (List.mem_cons.2 (Or.inr h1))
    · rcases List.mem_cons.1 hp with e | hp
      · exact e ▸ h2.trans (hr a b)
      · exact h3 p hp

/-- The reference's index: over a list that holds exactly the pairs (value at `k`, word of `k`), from (+∞, 0), such a fold
    ends with the word of the nearest index. -/
theorem foldl_eq (f : EReal × BitVec 32 → EReal × BitVec 32 → EReal × BitVec 32)
    (hf : ∀ a b, f a b = a ∨ f a b = b) (hl : ∀ a b, Le (f a b) a) (hr : ∀ a b, Le (f a b) b)
    (d : Fin 1024 → EReal) (l : List (EReal × BitVec 32))
    (hin : ∀ k : Fin 1024, (d k, BitVec.ofNat 32 k.val) ∈ l)
    (hall : ∀ p ∈ l, ∃ k : Fin 1024, p = (d k, BitVec.ofNat 32 k.val)) :
    (l.foldl f (⊤, 0#32)).2 = BitVec.ofNat 32 (near d).val := by
  obtain ⟨h1, -, h3⟩ := foldl_spec f hf hl hr l (⊤, 0#32)
  have hn := h3 _ (hin (near d))
  rcases h1 with h1 | h1
  · rw [h1] at hn ⊢
    rcases hn with hn | ⟨hn, -⟩
    · exact absurd hn (not_lt.2 le_top)
    · have h0 : near d ≤ 0 := (near_isFirst d).2 0 (le_top.trans (le_of_eq hn))
      have : near d = 0 := Fin.le_zero_iff.1 h0
      rw [this]; rfl
  · obtain ⟨k, hk⟩ := hall _ h1
    rw [hk] at hn ⊢
    have hle : d k ≤ d (near d) := by
      rcases hn with hn | ⟨hn, -⟩
      · exact le_of_lt hn
      · exact le_of_eq hn
    have hge := (near_isFirst d).2 k hle
    rcases hn with hn | ⟨-, hn⟩
    · exact absurd ((near_isFirst d).1 k) (not_le.2 hn)
    · rw [show (d k, BitVec.ofNat 32 k.val).2 = BitVec.ofNat 32 k.val from rfl,
        show (d (near d), BitVec.ofNat 32 (near d).val).2 = BitVec.ofNat 32 (near d).val from rfl,
        toInt_ofNat_small _ (by omega), toInt_ofNat_small _ (by omega)] at hn
      have : k = near d := le_antisymm (Fin.le_def.2 (by exact_mod_cast hn)) hge
      rw [this]

end Cert.Near

end
-- ==== Proof.VQ.lean ====
/- The mathematics both programs compute: for each of 64 x 1024 points of 32 coordinates the first nearest of 1024 codes,
   the difference of that code and the point, the sum of its squares, and how many points each code serves. -/
module

public import proofs.«01_k».proof.Proof.Near

@[expose] public section

noncomputable section

namespace Cert.VQ

open Cert.Near Idealize.ShloMosaic

/-- The points: batch, position, coordinate. -/
abbrev Pts := Fin 64 → Fin 1024 → Fin 32 → EReal

/-- The codebook: code, coordinate. -/
abbrev Codes := Fin 1024 → Fin 32 → EReal

/-- The squared distance of one point to code `k`, expanded. -/
def distOf (x : Fin 32 → EReal) (C : Codes) (k : Fin 1024) : EReal :=
  (∑ d : Fin 32, x d * x d) - (∑ d : Fin 32, (C k d + C k d) * x d) + ∑ d : Fin 32, C k d * C k d

/-- The first nearest code of one point. -/
def codeOf (x : Fin 32 → EReal) (C : Codes) : Fin 1024 := near (distOf x C)

/-- The nearest code less the point, one coordinate. -/
def errOf (x : Fin 32 → EReal) (C : Codes) (d : Fin 32) : EReal := C (codeOf x C) d - x d

/-- The sum of the squared differences. -/
def total (X : Pts) (C : Codes) : EReal := ∑ b : Fin 64, ∑ p : Fin 1024, ∑ d : Fin 32, errOf (X b p) C d * errOf (X b p) C d

/-- The number of points a code serves. -/
def hits (X : Pts) (C : Codes) (k : Fin 1024) : EReal :=
  ∑ b : Fin 64, ∑ p : Fin 1024, if k = codeOf (X b p) C then (1 : EReal) else 0

/-- The share of the points a code serves. -/
def share (X : Pts) (C : Codes) (k : Fin 1024) : EReal := hits X C k * Ideal.ofBits .f32 0x37800000#32

/-- The loss: the sum times 1.25 / 2^21. -/
def loss (X : Pts) (C : Codes) : EReal := total X C * Ideal.ofBits .f32 0x35200000#32

/-- The perplexity of the shares. -/
def perplexity (X : Pts) (C : Codes) : EReal :=
  Ideal.exp (0 - ∑ k : Fin 1024, share X C k * Ideal.log (share X C k + Ideal.ofBits .f32 0x2EDBE6FF#32))

/-! ## The identities -/

/-- Twice a number is the number plus itself, infinities included. -/
theorem two_mul_eq (x : EReal) : Ideal.ofBits .f32 0x40000000#32 * x = x + x := by
  have h : Ideal.ofBits .f32 0x40000000#32 = ((2 : ℝ) : EReal) := by
    simp [Ideal.ofBits, Ideal.ieee, -EReal.coe_mul]; norm_num
  rw [h]
  induction x with
  | bot => rw [EReal.coe_mul_bot_of_pos (by norm_num)]; rfl
  | top => rw [EReal.coe_mul_top_of_pos (by norm_num)]; rfl
  | coe x => rw [← EReal.coe_mul, ← EReal.coe_add]; congr 1; ring

/-- Doubling the point or doubling the code is the same. -/
theorem cross_eq (x c : EReal) : Ideal.ofBits .f32 0x40000000#32 * x * c = (c + c) * x := by
  rw [← two_mul_eq c, mul_right_comm]

/-- The mean and a quarter of it: the sum times one constant. -/
theorem loss_eq (s : EReal) :
    Ideal.div s (Ideal.ofBits .f32 0x4A000000#32) + Ideal.ofBits .f32 0x3E800000#32 * Ideal.div s (Ideal.ofBits .f32 0x4A000000#32)
      = s * Ideal.ofBits .f32 0x35200000#32 := by
  have h1 : Ideal.ofBits .f32 0x4A000000#32 = ((2097152 : ℝ) : EReal) := by
    simp [Ideal.ofBits, Ideal.ieee, -EReal.coe_mul]; norm_num
  have h2 : Ideal.ofBits .f32 0x3E800000#32 = ((1 / 4 : ℝ) : EReal) := by
    simp [Ideal.ofBits, Ideal.ieee, -EReal.coe_mul]; norm_num
  have h3 : Ideal.ofBits .f32 0x35200000#32 = ((5 / 4 / 2097152 : ℝ) : EReal) := by
    simp [Ideal.ofBits, Ideal.ieee, -EReal.coe_mul]; norm_num
  rw [h1, h2, h3, Ideal.div_coe (by norm_num), mul_left_comm, ← EReal.coe_mul, ← EReal.left_distrib_of_nonneg, ← EReal.coe_add]
  · congr 2; norm_num
  · exact EReal.coe_nonneg.2 (by norm_num)
  · exact EReal.coe_nonneg.2 (by norm_num)

/-- Dividing by 65536 is multiplying by its reciprocal. -/
theorem share_eq (s : EReal) : Ideal.div s (Ideal.ofBits .f32 0x47800000#32) = s * Ideal.ofBits .f32 0x37800000#32 := by
  have h1 : Ideal.ofBits .f32 0x47800000#32 = ((65536 : ℝ) : EReal) := by
    simp [Ideal.ofBits, Ideal.ieee, -EReal.coe_mul]; norm_num
  have h2 : Ideal.ofBits .f32 0x37800000#32 = ((1 / 65536 : ℝ) : EReal) := by
    simp [Ideal.ofBits, Ideal.ieee, -EReal.coe_mul]; norm_num
  rw [h1, h2, Ideal.div_coe (by norm_num)]

end Cert.VQ

end
-- ==== Proof.KernelBlock.lean ====
/- What one grid step of the kernel computes from its blocks, element by element: the one-hot of every column's nearest
   code, and that code less the column. -/
module

public import proofs.«01_k».proof.Proof.Gen.KernelIdeal.Frame
public import proofs.«01_k».proof.Proof.VQ
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Near Cert.VQ Idealize.ShloMosaic Idealize.ShloMosaic.TcCoe Idealize.SL.Sem

/-- Positive infinity's pattern is the top. -/
theorem ofBits_inf : Ideal.ofBits .f32 2139095040#32 = (⊤ : EReal) := by
  simp [Ideal.ofBits, Ideal.ieee]

/-- The points' columns: the first batch's, then the second's. -/
theorem cols_apply (v3 v5 : FVec Ideal S1x32x1024 .f32) (d : Fin 32) (y : Fin 2048) :
    k0_pay10 (F := Ideal) v3 v5 (ix2 d y)
      = if h : y.val < 1024 then v3 (ix3 0 d ⟨y.val, h⟩) else v5 (ix3 0 d ⟨y.val - 1024, by omega⟩) := by
  pointwise [k0_pay10]

/-- One column. -/
def col (v : FVec Ideal S32x2048 .f32) (y : Fin 2048) : Fin 32 → EReal := fun d => v (ix2 d y)

/-- The selection by a comparison of two small words. -/
theorem select_eq (k i : Fin 1024) : Scalar.select (IntOp.cmpi .eq (BitVec.ofNat 32 k.val) (BitVec.ofNat 32 i.val)) (1 : EReal) 0
    = if k = i then (1 : EReal) else 0 := by
  by_cases h : k = i
  · subst h
    rw [if_pos rfl]
    simp [IntOp.cmpi, Scalar.select]
  · rw [if_neg h]
    have hne : BitVec.ofNat 32 k.val ≠ BitVec.ofNat 32 i.val := fun e =>
      h (Fin.ext (ofNat_inj_small (by omega) (by omega) e))
    have hb : (BitVec.ofNat 32 k.val == BitVec.ofNat 32 i.val) = false := beq_eq_false_iff_ne.2 hne
    simp only [IntOp.cmpi, hb]
    simp [Scalar.select]

variable (C : Codes)

/-- The one-hot of a column's nearest code, the codebook's squared norms and doubles given. -/
theorem hot_apply (v3 v5 : FVec Ideal S1x32x1024 .f32) (v11 : FVec Ideal S1024x1 .f32) (v13 : FVec Ideal S1024x32 .f32)
    (h11 : ∀ k, v11 (ix2 k 0) = ∑ e : Fin 32, C k e * C k e) (h13 : ∀ k e, v13 (ix2 k e) = C k e + C k e) (k : Fin 1024) (y : Fin 2048) :
    k0_pay11 (F := Ideal) v3 v5 v11 v13 (ix2 k y) = if k = codeOf (col (k0_pay10 (F := Ideal) v3 v5) y) C then (1 : EReal) else 0 := by
  have hD : ∀ x : Fin 1024, (∑ e : Fin 32, k0_pay10 (F := Ideal) v3 v5 (ix2 e y) * k0_pay10 (F := Ideal) v3 v5 (ix2 e y))
      - (∑ e : Fin 32, v13 (ix2 x e) * k0_pay10 (F := Ideal) v3 v5 (ix2 e y)) + v11 (ix2 x 0)
      = distOf (col (k0_pay10 (F := Ideal) v3 v5) y) C x := fun x => by
    unfold distOf
    rw [h11]
    congr 2
    exact Fin.sum_fin_congr fun e => by rw [h13]; rfl
  have e : k0_pay11 (F := Ideal) v3 v5 v11 v13 (ix2 k y)
      = Scalar.select (IntOp.cmpi .eq (BitVec.ofNat 32 k.val)
          (Finset.fold IntOp.minsi 2147483647#32 (fun x : Fin 1024 =>
            if (∑ e : Fin 32, k0_pay10 (F := Ideal) v3 v5 (ix2 e y) * k0_pay10 (F := Ideal) v3 v5 (ix2 e y))
                - (∑ e : Fin 32, v13 (ix2 x e) * k0_pay10 (F := Ideal) v3 v5 (ix2 e y)) + v11 (ix2 x 0)
              = Finset.fold min (Ideal.ofBits .f32 2139095040#32) (fun x : Fin 1024 =>
                (∑ e : Fin 32, k0_pay10 (F := Ideal) v3 v5 (ix2 e y) * k0_pay10 (F := Ideal) v3 v5 (ix2 e y))
                - (∑ e : Fin 32, v13 (ix2 x e) * k0_pay10 (F := Ideal) v3 v5 (ix2 e y)) + v11 (ix2 x 0)) Finset.univ
            then BitVec.ofNat 32 x.val else 1024#32) Finset.univ)) (1 : EReal) 0 := by
    pointwise [k0_pay11]
  rw [e]
  simp only [hD, ofBits_inf]
  rw [fold_min_eq, fold_minsi_eq, select_eq, codeOf]

/-- The nearest code less the column. -/
theorem err_apply (v7 : FVec Ideal S32x2048 .f32) (v35 : FVec Ideal S256x1024 .bf16) (v36 : FVec Ideal S1024x2048 .bf16) (y : Fin 2048)
    (hlo : ∀ (d : Fin 32) (k : Fin 1024), v35 (ix2 (⟨d.val, by omega⟩ : Fin 256) k) = C k d)
    (hhi : ∀ (d : Fin 32) (k : Fin 1024), v35 (ix2 (⟨128 + d.val, by omega⟩ : Fin 256) k) = (0 : EReal))
    (hv : ∀ k : Fin 1024, v36 (ix2 k y) = if k = codeOf (col v7 y) C then (1 : EReal) else 0) (d : Fin 32) :
    k0_pay1 (F := Ideal) v7 v35 v36 (ix2 d y) = errOf (col v7 y) C d := by
  have e : k0_pay1 (F := Ideal) v7 v35 v36 (ix2 d y)
      = (∑ x : Fin 1024, v35 (ix2 (⟨d.val, by omega⟩ : Fin 256) x) * v36 (ix2 x y))
        + (∑ x : Fin 1024, v35 (ix2 (⟨128 + d.val, by omega⟩ : Fin 256) x) * v36 (ix2 x y)) - v7 (ix2 d y) := by
    pointwise [k0_pay1]
  have e1 : (∑ x : Fin 1024, v35 (ix2 (⟨d.val, by omega⟩ : Fin 256) x) * v36 (ix2 x y)) = C (codeOf (col v7 y) C) d := by
    refine (Fin.sum_fin_congr (G := fun x => if x = codeOf (col v7 y) C then C x d else (0 : EReal)) fun x => ?_).trans ?_
    · rw [hlo, hv]
      by_cases h : x = codeOf (col v7 y) C
      · rw [if_pos h, if_pos h]; exact mul_one _
      · rw [if_neg h, if_neg h]; exact mul_zero _
    · exact (Finset.sum_ite_eq' Finset.univ (codeOf (col v7 y) C) fun x => C x d).trans (if_pos (Finset.mem_univ _))
  have e2 : (∑ x : Fin 1024, v35 (ix2 (⟨128 + d.val, by omega⟩ : Fin 256) x) * v36 (ix2 x y)) = (0 : EReal) := by
    refine (Fin.sum_fin_congr (G := fun _ => (0 : EReal)) fun x => ?_).trans Finset.sum_const_zero
    rw [hhi]; exact zero_mul _
  rw [e, e1, e2, add_zero]; rfl

end Cert.KernelIdeal.Hand

end
-- ==== Proof.KernelEntry.lean ====
/- What the kernel's four input blocks hold at a grid point, of the two arguments. -/
module

public import proofs.«01_k».proof.Proof.KernelBlock

@[expose] public section

set_option maxRecDepth 16384

noncomputable section

namespace Cert.KernelIdeal.Hand

open Cert.KernelIdeal Cert.KernelIdeal.Gen Cert.Near Cert.VQ Idealize.ShloMosaic Idealize.ShloMosaic.TcCoe Idealize.SL.Sem

variable (m : (ℓ : Loc nD τ sig) → Buf (Elt Ideal) ℓ)

/-- The points a device is given. -/
abbrev argX (c : Dev nD) : FVec Ideal S64x1024x32 .f32 := m ((c.tc : Thread nD τ).loc main_arg0)

/-- The codebook a device is given. -/
abbrev argC (c : Dev nD) : FVec Ideal S1024x32 .f32 := m ((c.tc : Thread nD τ).loc main_arg1)

/-- Where each window's block stands at a grid point. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![0, 0] ∧ win0_6.index t = ![0, 0] :=
  (by decide +kernel : ∀ t : Fin grid0.N, win0_0.index t = ![t.val, 0, 0] ∧ win0_1.index t = ![0, 0] ∧ win0_2.index t = ![0, 0]
    ∧ win0_3.index t = ![0, 0] ∧ win0_4.index t = ![t.val, 0, 0] ∧ win0_5.index t = ![0, 0] ∧ win0_6.index t = ![0, 0])

/-- The codebook split into its rounded part and the rest, each in 32 of 128 rows, the other rows zero. -/
def splitC (C : FVec Ideal S1024x32 .f32) : FVec Ideal S256x1024 .bf16 :=
  concatenate S256x1024 0
    [⟨S32x1024, transpose S32x1024 [1, 0] (truncf .bf16 (extf .f32 (truncf .bf16 C bitsLt_bf16_f32) bitsLt_bf16_f32) bitsLt_bf16_f32) transposes_S1024x32_S32x1024_1_0⟩,
     ⟨S96x1024, broadcastInDim S96x1024 ![] bcast_S_S96x1024 (constant S_ .bf16 0x0000#16)⟩,
     ⟨S32x1024, transpose S32x1024 [1, 0] (truncf .bf16 (subf C (extf .f32 (truncf .bf16 C bitsLt_bf16_f32) bitsLt_bf16_f32)) bitsLt_bf16_f32) transposes_S1024x32_S32x1024_1_0⟩,
     ⟨S96x1024, broadcastInDim S96x1024 ![] bcast_S_S96x1024 (constant S_ .bf16 0x0000#16)⟩]
    concatenates_S32x1024_S96x1024_S32x1024_S96x1024_S256x1024_d0

/-- The codebook's squared norms, as a column. -/
def normC (C : FVec Ideal S1024x32 .f32) : FVec Ideal S1024x1 .f32 :=
  broadcastInDim S1024x1 ![0] bcast_S1024_S1024x1_0 (Host.reduceAdd (mulf C C) (constant S_ .f32 0x00000000#32) reducesTo_S1024x32_S1024_d1 h_S_)

/-- The first input array is the points, coordinates before positions. -/
theorem entry0 (c : Dev nD) : V m c main_v0 = transpose S64x32x1024 [0, 2, 1] (argX m c) transposes_S64x1024x32_S64x32x1024_0_2_1 := by
  unfold V
  show StableHlo.after hostOps0 (fun b => m (c, b)) (Proc.tc.devRef main_v0) = _
  after_results_simp
  try rfl

/-- The second input array is the squared norms. -/
theorem entry1 (c : Dev nD) : V m c main_v4 = normC (argC m c) := by
  unfold V
  show StableHlo.after hostOps0 (fun b => m (c, b)) (Proc.tc.devRef main_v4) = _
  after_results_simp
  try rfl

/-- The third input array is the doubled codebook. -/
theorem entry2 (c : Dev nD) : V m c main_v1 = addf (F := Ideal) (φ := .f32) (argC m c) (argC m c) := by
  unfold V
  show StableHlo.after hostOps0 (fun b => m (c, b)) (Proc.tc.devRef main_v1) = _
  after_results_simp
  try rfl

/-- The fourth input array is the split codebook. -/
theorem entry3 (c : Dev nD) : V m c main_v13 = splitC (argC m c) := by
  unfold V
  show StableHlo.after hostOps0 (fun b => m (c, b)) (Proc.tc.devRef main_v13) = _
  after_results_simp
  try rfl

/-- The squared length of a code is the sum of its squares. -/
theorem norm_apply (C : FVec Ideal S1024x32 .f32) (k : Fin 1024) (u : Fin 1) : normC C (ix2 k u) = ∑ d : Fin 32, C (ix2 k d) * C (ix2 k d) := by
  pointwise [normC]

/-- The first 32 rows of the split codebook are the codebook, transposed. -/
theorem split_lo (C : FVec Ideal S1024x32 .f32) (d : Fin 32) (k : Fin 1024) : splitC C (ix2 (⟨d.val, by omega⟩ : Fin 256) k) = C (ix2 k d) := by
  pointwise [splitC]

/-- Rows 128 to 159 of the split codebook are the codebook less itself, transposed. -/
theorem split_hi (C : FVec Ideal S1024x32 .f32) (d : Fin 32) (k : Fin 1024) :
    splitC C (ix2 (⟨128 + d.val, by omega⟩ : Fin 256) k) = C (ix2 k d) - C (ix2 k d) := by
  pointwise [splitC]
  have hd : 128 + d.val - 32 - 96 = d.val := by omega
  rw [dif_neg (by omega), dif_neg (by omega), dif_pos (by omega)]
  have hk : (⟨128 + d.val - 32 - 96, by omega⟩ : Fin 32) = d := Fin.ext hd
  rw [hk]

/-- The points' block: two batches, from batch 2 t. -/
theorem blk0 (c : Dev nD) (t : Fin cfg0.N) (u : Fin 2) (d : Fin 32) (p : Fin 1024) (h : 2 * t.val + u.val < 64) :
    (iblk m c 0 t : FVec Ideal S2x32x1024 .f32) (ix3 u d p) = argX m c (ix3 (⟨2 * t.val + u.val, h⟩ : Fin 64) p d) := by
  have e : argX m c (ix3 (⟨2 * t.val + u.val, h⟩ : Fin 64) p d)
      = (V m c main_v0 : FVec Ideal S64x32x1024 .f32) (ix3 (⟨2 * t.val + u.val, h⟩ : Fin 64) d p) := by
    rw [entry0]
    pointwise
  rw [e]
  blk_point [iblk, idx t]

/-- The other blocks are their whole arrays. -/
theorem blk1 (c : Dev nD) (t : Fin cfg0.N) : (iblk m c 1 t : FVec Ideal S1024x1 .f32) = normC (argC m c) := by
  rw [← entry1]
  funext j
  blk_point [iblk, idx t]

/-- Every step finds the doubled codebook in its third window. -/
theorem blk2 (c : Dev nD) (t : Fin cfg0.N) : (iblk m c 2 t : FVec Ideal S1024x32 .f32) = addf (F := Ideal) (φ := .f32) (argC m c) (argC m c) := by
  rw [← entry2]
  funext j
  blk_point [iblk, idx t]

/-- Every step finds the split codebook in its fourth window. -/
theorem blk3 (c : Dev nD) (t : Fin cfg0.N) : (iblk m c 3 t : FVec Ideal S256x1024 .bf16) = splitC (argC m c) := by
  rw [← entry3]
  funext j
  blk_point [iblk, idx t]

end Cert.KernelIdeal.Hand

end
-- ==== Proof.KernelStep.lean ====
/- What one grid step adds to the counts and to the squared error and what it writes to the output, its loads being two
   batches of points and the prepared codebook. -/
module

public import proofs.«01_k».proof.Proof.KernelEntry

@[expose] public section

set_option maxRecDepth 16384

noncomputable section

namespace Cert.KernelIdeal.Hand

open Cert.KernelIdeal Cert.KernelIdeal.Gen Cert.Near Cert.VQ Idealize.ShloMosaic Idealize.ShloMosaic.TcCoe Idealize.SL.Sem

/-- A step's loads: the two batches' points, coordinates before positions; the codebook's squared norms, its double, and its
    rows with nothing in the low part. -/
structure Loads (x : Fin 2 → Fin 1024 → Fin 32 → EReal) (C : Codes) (v3 v5 : FVec Ideal S1x32x1024 .f32) (v11 : FVec Ideal S1024x1 .f32)
    (v13 : FVec Ideal S1024x32 .f32) (v35 : FVec Ideal S256x1024 .bf16) : Prop where
  first : ∀ d p, v3 (ix3 0 d p) = x 0 p d
  second : ∀ d p, v5 (ix3 0 d p) = x 1 p d
  norms : ∀ k, v11 (ix2 k 0) = ∑ e : Fin 32, C k e * C k e
  doubles : ∀ k e, v13 (ix2 k e) = C k e + C k e
  high : ∀ (d : Fin 32) (k : Fin 1024), v35 (ix2 (⟨d.val, by omega⟩ : Fin 256) k) = C k d
  low : ∀ (d : Fin 32) (k : Fin 1024), v35 (ix2 (⟨128 + d.val, by omega⟩ : Fin 256) k) = (0 : EReal)

variable {x : Fin 2 → Fin 1024 → Fin 32 → EReal} {C : Codes} {v3 v5 : FVec Ideal S1x32x1024 .f32} {v11 : FVec Ideal S1024x1 .f32}
  {v13 : FVec Ideal S1024x32 .f32} {v35 : FVec Ideal S256x1024 .bf16}

/-- The column of a position of a batch. -/
theorem Loads.col_eq (h : Loads x C v3 v5 v11 v13 v35) (y : Fin 2048) (hu : y.val / 1024 < 2) (hp : y.val % 1024 < 1024) :
    col (k0_pay10 (F := Ideal) v3 v5) y = x ⟨y.val / 1024, hu⟩ ⟨y.val % 1024, hp⟩ := by
  funext d
  unfold col
  rw [cols_apply]
  by_cases hy : y.val < 1024
  · rw [dif_pos hy, h.first]
    have e0 : (⟨y.val / 1024, hu⟩ : Fin 2) = 0 := Fin.ext (Nat.div_eq_of_lt hy)
    have e1 : (⟨y.val % 1024, hp⟩ : Fin 1024) = ⟨y.val, hy⟩ := Fin.ext (Nat.mod_eq_of_lt hy)
    rw [e0, e1]
  · rw [dif_neg hy, h.second]
    have e0 : (⟨y.val / 1024, hu⟩ : Fin 2) = 1 := Fin.ext (show y.val / 1024 = 1 by omega)
    have e1 : (⟨y.val % 1024, hp⟩ : Fin 1024) = ⟨y.val - 1024, by omega⟩ := Fin.ext (show y.val % 1024 = y.val - 1024 by omega)
    rw [e0, e1]

/-- The one-hot of a position. -/
theorem Loads.hot (h : Loads x C v3 v5 v11 v13 v35) (k : Fin 1024) (y : Fin 2048) (hu : y.val / 1024 < 2) (hp : y.val % 1024 < 1024) :
    k0_pay11 (F := Ideal) v3 v5 v11 v13 (ix2 k y) = if k = codeOf (x ⟨y.val / 1024, hu⟩ ⟨y.val % 1024, hp⟩) C then (1 : EReal) else 0 := by
  rw [hot_apply C v3 v5 v11 v13 h.norms h.doubles, h.col_eq y hu hp]

/-- The nearest code less the point. -/
theorem Loads.err (h : Loads x C v3 v5 v11 v13 v35) (d : Fin 32) (y : Fin 2048) (hu : y.val / 1024 < 2) (hp : y.val % 1024 < 1024) :
    k0_pay1 (F := Ideal) (k0_pay10 (F := Ideal) v3 v5) (k0_pay12 (F := Ideal) v35) (k0_pay13 (F := Ideal) v3 v5 v11 v13) (ix2 d y)
      = errOf (x ⟨y.val / 1024, hu⟩ ⟨y.val % 1024, hp⟩) C d := by
  have e12 : ∀ (a : Fin 256) (k : Fin 1024), k0_pay12 (F := Ideal) v35 (ix2 a k) = v35 (ix2 a k) := fun a k => by
    pointwise [k0_pay12]
  have e13 : ∀ (k : Fin 1024), k0_pay13 (F := Ideal) v3 v5 v11 v13 (ix2 k y) = k0_pay11 (F := Ideal) v3 v5 v11 v13 (ix2 k y) := fun k => by
    pointwise [k0_pay13]
  rw [err_apply C _ _ _ y (fun d k => by rw [e12, h.high]) (fun d k => by rw [e12, h.low])
    (fun k => by rw [e13, hot_apply C v3 v5 v11 v13 h.norms h.doubles]), h.col_eq y hu hp]

/-- What a step adds to a code's count. -/
theorem Loads.hits (h : Loads x C v3 v5 v11 v13 v35) (v : FVec Ideal S1024x1 .f32) (k : Fin 1024) (u : Fin 1) :
    k0_pay6 (F := Ideal) (k0_pay11 (F := Ideal) v3 v5 v11 v13) v (ix2 k u)
      = v (ix2 k u) + ∑ b : Fin 2, ∑ p : Fin 1024, if k = codeOf (x b p) C then (1 : EReal) else 0 := by
  have e : ∀ v33 : FVec Ideal S1024x2048 .f32, k0_pay6 (F := Ideal) v33 v (ix2 k u) = v (ix2 k u) + ∑ y : Fin 2048, v33 (ix2 k y) := fun v33 => by
    pointwise [k0_pay6]
  rw [e]
  refine congrArg (fun z : EReal => v (ix2 k u) + z) ?_
  exact Fin.sum_divmod_congr (N := 2048) (A := 2) (S := 1024) fun y hu hp => h.hot k y hu hp

/-- What a step adds to the squared error. -/
theorem Loads.sq (h : Loads x C v3 v5 v11 v13 v35) (s : EReal) :
    k0_pay5 (F := Ideal) (k0_pay10 (F := Ideal) v3 v5) (k0_pay12 (F := Ideal) v35) (k0_pay13 (F := Ideal) v3 v5 v11 v13) s
      = s + ∑ b : Fin 2, ∑ p : Fin 1024, ∑ d : Fin 32, errOf (x b p) C d * errOf (x b p) C d := by
  have e : ∀ (v7 : FVec Ideal S32x2048 .f32) (v35 : FVec Ideal S256x1024 .bf16) (v36 : FVec Ideal S1024x2048 .bf16), k0_pay5 (F := Ideal) v7 v35 v36 s
      = s + ∑ d : Fin 32, ∑ y : Fin 2048, k0_pay1 (F := Ideal) v7 v35 v36 (ix2 d y) * k0_pay1 (F := Ideal) v7 v35 v36 (ix2 d y) := fun v7 v35 v36 => by
    pointwise [k0_pay5]
  rw [e]
  refine congrArg (fun z : EReal => s + z) ?_
  refine Finset.sum_comm.trans ?_
  refine Fin.sum_divmod_congr (N := 2048) (A := 2) (S := 1024) fun y hu hp => Fin.sum_fin_congr fun d => ?_
  rw [h.err d y hu hp]

/-- What a step writes for the first batch. -/
theorem Loads.out0 (h : Loads x C v3 v5 v11 v13 v35) (u : Fin 1) (d : Fin 32) (p : Fin 1024) :
    k0_pay3 (F := Ideal) (k0_pay10 (F := Ideal) v3 v5) (k0_pay12 (F := Ideal) v35) (k0_pay13 (F := Ideal) v3 v5 v11 v13) (ix3 u d p)
      = x 0 p d + errOf (x 0 p) C d := by
  have e : ∀ (v7 : FVec Ideal S32x2048 .f32) (v35 : FVec Ideal S256x1024 .bf16) (v36 : FVec Ideal S1024x2048 .bf16), k0_pay3 (F := Ideal) v7 v35 v36 (ix3 u d p)
      = col v7 (⟨p.val, by omega⟩ : Fin 2048) d + k0_pay1 (F := Ideal) v7 v35 v36 (ix2 d (⟨p.val, by omega⟩ : Fin 2048)) := fun v7 v35 v36 => by
    pointwise [k0_pay3, k0_pay2, col]
  have hu : (⟨p.val, by omega⟩ : Fin 2048).val / 1024 < 2 := show p.val / 1024 < 2 by omega
  have hp : (⟨p.val, by omega⟩ : Fin 2048).val % 1024 < 1024 := show p.val % 1024 < 1024 by omega
  have e0 : (⟨(⟨p.val, by omega⟩ : Fin 2048).val / 1024, hu⟩ : Fin 2) = 0 := Fin.ext (show p.val / 1024 = 0 by omega)
  have e1 : (⟨(⟨p.val, by omega⟩ : Fin 2048).val % 1024, hp⟩ : Fin 1024) = p := Fin.ext (show p.val % 1024 = p.val by omega)
  rw [e, h.err d _ hu hp, h.col_eq _ hu hp, e0, e1]

/-- What a step writes for the second batch. -/
theorem Loads.out1 (h : Loads x C v3 v5 v11 v13 v35) (u : Fin 1) (d : Fin 32) (p : Fin 1024) :
    k0_pay4 (F := Ideal) (k0_pay10 (F := Ideal) v3 v5) (k0_pay12 (F := Ideal) v35) (k0_pay13 (F := Ideal) v3 v5 v11 v13) (ix3 u d p)
      = x 1 p d + errOf (x 1 p) C d := by
  have e : ∀ (v7 : FVec Ideal S32x2048 .f32) (v35 : FVec Ideal S256x1024 .bf16) (v36 : FVec Ideal S1024x2048 .bf16), k0_pay4 (F := Ideal) v7 v35 v36 (ix3 u d p)
      = col v7 (⟨1024 + p.val, by omega⟩ : Fin 2048) d + k0_pay1 (F := Ideal) v7 v35 v36 (ix2 d (⟨1024 + p.val, by omega⟩ : Fin 2048)) := fun v7 v35 v36 => by
    pointwise [k0_pay4, k0_pay2, col]
  have hu : (⟨1024 + p.val, by omega⟩ : Fin 2048).val / 1024 < 2 := show (1024 + p.val) / 1024 < 2 by omega
  have hp : (⟨1024 + p.val, by omega⟩ : Fin 2048).val % 1024 < 1024 := show (1024 + p.val) % 1024 < 1024 by omega
  have e0 : (⟨(⟨1024 + p.val, by omega⟩ : Fin 2048).val / 1024, hu⟩ : Fin 2) = 1 := Fin.ext (show (1024 + p.val) / 1024 = 1 by omega)
  have e1 : (⟨(⟨1024 + p.val, by omega⟩ : Fin 2048).val % 1024, hp⟩ : Fin 1024) = p := Fin.ext (show (1024 + p.val) % 1024 = p.val by omega)
  rw [e, h.err d _ hu hp, h.col_eq _ hu hp, e0, e1]

/-- The loss of a squared error. -/
theorem loss_apply (s : EReal) : k0_pay7 (F := Ideal) s = s * Ideal.ofBits .f32 0x35200000#32 := by
  pointwise [k0_pay7]

/-- The perplexity of the counts. -/
theorem perp_apply (v : FVec Ideal S1024x1 .f32) (n : Fin 1024 → EReal) (hn : ∀ k, v (ix2 k 0) = n k) :
    k0_pay8 (F := Ideal) v = Ideal.exp (0 - ∑ k : Fin 1024, n k * Ideal.ofBits .f32 0x37800000#32
      * Ideal.log (n k * Ideal.ofBits .f32 0x37800000#32 + Ideal.ofBits .f32 0x2EDBE6FF#32)) := by
  have e : k0_pay8 (F := Ideal) v = Scalar.exp (F := Ideal) (φ := .f32) (0 - ∑ k : Fin 1024, ∑ _u : Fin 1, v (ix2 k 0) * Ideal.ofBits .f32 0x37800000#32
      * Ideal.log (v (ix2 k 0) * Ideal.ofBits .f32 0x37800000#32 + Ideal.ofBits .f32 0x2EDBE6FF#32)) := by
    pointwise [k0_pay8]
  rw [e]
  show Ideal.exp _ = _
  congr 2
  refine Fin.sum_fin_congr fun k => ?_
  rw [Fin.sum_univ_one, hn]

/-- The counts start at zero. -/
theorem zero_apply (j : S1024x1.Idx) : k0_pay9 (F := Ideal) j = 0 := by
  pointwise [k0_pay9]

end Cert.KernelIdeal.Hand

end
-- ==== Proof.KernelFold.lean ====
/- What the two carried buffers hold after the last grid point: every code's count and the squared error, over all points. -/
module

public import proofs.«01_k».proof.Proof.KernelStep
public import Idealize.ShloMosaic.Lib.Pipeline.ReadBack

@[expose] public section

set_option maxRecDepth 16384

noncomputable section

namespace Cert.KernelIdeal.Hand

open Cert.KernelIdeal Cert.KernelIdeal.Gen Cert.Near Cert.VQ Idealize.ShloMosaic Idealize.ShloMosaic.TcCoe Idealize.SL.Sem

variable (m : (ℓ : Loc nD τ sig) → Buf (Elt Ideal) ℓ)

/-- A device's points by their coordinates. -/
def ptsOf (c : Dev nD) : Pts := fun b p d => argX m c (ix3 b p d)

/-- A device's codebook by its coordinates. -/
def codesOf (c : Dev nD) : Codes := fun k d => argC m c (ix2 k d)

/-- The two batches of a step are among the 64. -/
theorem batch_lt (t : Fin cfg0.N) (u : Fin 2) : t.val * 2 + u.val < 64 := by
  have hN : t.val < 32 := lt_of_lt_of_eq t.isLt (show cfg0.N = 32 from N_0)
  omega

/-- The two batches of a grid point. -/
def two (c : Dev nD) (t : Fin cfg0.N) : Fin 2 → Fin 1024 → Fin 32 → EReal := fun u => ptsOf m c ⟨t.val * 2 + u.val, batch_lt t u⟩

/-- Every codebook entry less itself is zero: none is infinite. -/
def Fin0 (c : Dev nD) : Prop := ∀ (k : Fin 1024) (d : Fin 32), argC m c (ix2 k d) - argC m c (ix2 k d) = 0

variable {m}

/-- The loads of a grid point. -/
theorem loads {c : Dev nD} (hf : Fin0 m c) (t : Fin cfg0.N) (v3 v5 : FVec Ideal S1x32x1024 .f32)
    (h3 : ∀ d p, v3 (ix3 0 d p) = (iblk m c 0 t : FVec Ideal S2x32x1024 .f32) (ix3 0 d p))
    (h5 : ∀ d p, v5 (ix3 0 d p) = (iblk m c 0 t : FVec Ideal S2x32x1024 .f32) (ix3 1 d p)) :
    Loads (two m c t) (codesOf m c) v3 v5 (iblk m c 1 t) (iblk m c 2 t) (iblk m c 3 t) := by
  have hb : ∀ u : Fin 2, 2 * t.val + u.val < 64 := fun u => by have := batch_lt t u; omega
  have hx : ∀ (u : Fin 2) d p, (iblk m c 0 t : FVec Ideal S2x32x1024 .f32) (ix3 u d p) = two m c t u p d := fun u d p => by
    rw [blk0 m c t u d p (hb u)]
    unfold two ptsOf
    have e : (⟨2 * t.val + u.val, hb u⟩ : Fin 64) = ⟨t.val * 2 + u.val, batch_lt t u⟩ := Fin.ext (by show 2 * t.val + u.val = t.val * 2 + u.val; omega)
    rw [e]
  refine ⟨fun d p => (h3 d p).trans (hx 0 d p), fun d p => (h5 d p).trans (hx 1 d p), fun k => ?_, fun k e => ?_, fun d k => ?_, fun d k => ?_⟩
  · rw [blk1]; exact norm_apply _ k 0
  · rw [blk2]; rfl
  · rw [blk3]; exact split_lo _ d k
  · rw [blk3]; exact (split_hi _ d k).trans (hf k d)

/-- What a grid point adds to a code's count. -/
def addHits (m : (ℓ : Loc nD τ sig) → Buf (Elt Ideal) ℓ) (c : Dev nD) (t : Fin cfg0.N) (k : Fin 1024) : EReal :=
  ∑ b : Fin 2, ∑ p : Fin 1024, if k = codeOf (two m c t b p) (codesOf m c) then (1 : EReal) else 0

/-- What a grid point adds to the squared error. -/
def addSq (m : (ℓ : Loc nD τ sig) → Buf (Elt Ideal) ℓ) (c : Dev nD) (t : Fin cfg0.N) : EReal :=
  ∑ b : Fin 2, ∑ p : Fin 1024, ∑ d : Fin 32, errOf (two m c t b p) (codesOf m c) d * errOf (two m c t b p) (codesOf m c) d

/-- After the first step the counts are those of its two batches. -/
theorem hits_first {c : Dev nD} (hf : Fin0 m c) (t : Fin cfg0.N) (h0 : t.val % 32 = 0) (k : Fin 1024) :
    (outsAt0 m c t.val t.isLt).2.2.2.1 (ix2 k 0) = (0 : EReal) + addHits m c t k := by
  rw [outsAt0_A m c t h0 (by omega)]; frame_out
  refine ((loads hf t _ _ (fun d p => ?_) (fun d p => ?_)).hits _ k 0).trans ?_
  · pointwise
  · pointwise
  · rw [zero_apply]; rfl

/-- A later step adds the counts of its two batches. -/
theorem hits_step {c : Dev nD} (hf : Fin0 m c) (t : Fin cfg0.N) (h0 : ¬t.val % 32 = 0) (k : Fin 1024) :
    (outsAt0 m c t.val t.isLt).2.2.2.1 (ix2 k 0)
      = (show EReal from (outsAt0 m c (t.val - 1) (Nat.lt_of_le_of_lt (Nat.sub_le _ _) t.isLt)).2.2.2.1 (ix2 k 0)) + addHits m c t k := by
  by_cases h1 : t.val % 32 = 31
  · rw [outsAt0_C m c t h0 h1]; frame_out
    simp only [read_unread_whole]
    refine ((loads hf t _ _ (fun d p => ?_) (fun d p => ?_)).hits _ k 0).trans ?_
    · pointwise
    · pointwise
    · rfl
  · rw [outsAt0_B m c t h0 h1]; frame_out
    simp only [read_unread_whole]
    refine ((loads hf t _ _ (fun d p => ?_) (fun d p => ?_)).hits _ k 0).trans ?_
    · pointwise
    · pointwise
    · rfl

/-- After the first step the error sum is that of its two batches. -/
theorem sq_first {c : Dev nD} (hf : Fin0 m c) (t : Fin cfg0.N) (h0 : t.val % 32 = 0) (j : S1x1.Idx) :
    (outsAt0 m c t.val t.isLt).2.2.2.2 j = (0 : EReal) + addSq m c t := by
  rw [outsAt0_A m c t h0 (by omega)]; frame_out
  refine ((loads hf t _ _ (fun d p => ?_) (fun d p => ?_)).sq _).trans ?_
  · pointwise
  · pointwise
  · show Ideal.ofBits .f32 0#32 + addSq m c t = _
    rw [show Ideal.ofBits .f32 0#32 = (0 : EReal) by simp [Ideal.ofBits, Ideal.ieee]]

/-- A later step adds the error sum of its two batches. -/
theorem sq_step {c : Dev nD} (hf : Fin0 m c) (t : Fin cfg0.N) (h0 : ¬t.val % 32 = 0) (j : S1x1.Idx) :
    (outsAt0 m c t.val t.isLt).2.2.2.2 j
      = (show EReal from (outsAt0 m c (t.val - 1) (Nat.lt_of_le_of_lt (Nat.sub_le _ _) t.isLt)).2.2.2.2 j) + addSq m c t := by
  have hj : ∀ i : S1x1.Idx, i = j := fun i => by
    rw [eq_ix2 i, eq_ix2 j]; congr 1 <;> exact Subsingleton.elim _ _
  by_cases h1 : t.val % 32 = 31
  · rw [outsAt0_C m c t h0 h1]; frame_out
    simp only [read_unread_whole]
    refine ((loads hf t _ _ (fun d p => ?_) (fun d p => ?_)).sq _).trans ?_
    · pointwise
    · pointwise
    · rw [hj (Shape.Idx.first _)]; rfl
  · rw [outsAt0_B m c t h0 h1]; frame_out
    simp only [read_unread_whole]
    refine ((loads hf t _ _ (fun d p => ?_) (fun d p => ?_)).sq _).trans ?_
    · pointwise
    · pointwise
    · rw [hj (Shape.Idx.first _)]; rfl

/-- The step with number 31 is the last. -/
theorem last_eq (t : Fin cfg0.N) (h : t.val % 32 = 31) : t.val + 1 = cfg0.N := by
  have hN : t.val < 32 := lt_of_lt_of_eq t.isLt (show cfg0.N = 32 from N_0)
  have hE : cfg0.N = 32 := N_0
  omega

/-- After the last point every code's count is over all points. -/
theorem hits_last {c : Dev nD} (hf : Fin0 m c) (t : Fin cfg0.N) (h : t.val % 32 = 31) (k : Fin 1024) :
    (outsAt0 m c t.val t.isLt).2.2.2.1 (ix2 k 0) = hits (ptsOf m c) (codesOf m c) k := by
  refine (Pipeline.eq_sum_fin_of_reset_step_apply_last (ι := Fin 1024) (M := EReal)
    (fun n hn k => (outsAt0 m c n hn).2.2.2.1 (ix2 k 0)) 32 (fun _ => 0) (fun t k => addHits m c t k)
    (fun t h k => hits_first hf t h k) (fun t h k => hits_step hf t h k) (le_of_eq N_0) t (last_eq t h) k).trans ?_
  refine (zero_add _).trans ?_
  unfold hits addHits
  exact Fin.sum_mul_add_congr (L := 64) (n := 2) fun s u hl => rfl

/-- After the last point the squared error is over all points. -/
theorem sq_last {c : Dev nD} (hf : Fin0 m c) (t : Fin cfg0.N) (h : t.val % 32 = 31) (j : S1x1.Idx) :
    (outsAt0 m c t.val t.isLt).2.2.2.2 j = total (ptsOf m c) (codesOf m c) := by
  refine (Pipeline.eq_sum_fin_of_reset_step_apply_last (ι := S1x1.Idx) (M := EReal)
    (fun n hn j => (outsAt0 m c n hn).2.2.2.2 j) 32 (fun _ => 0) (fun t _ => addSq m c t)
    (fun t h j => sq_first hf t h j) (fun t h j => sq_step hf t h j) (le_of_eq N_0) t (last_eq t h) j).trans ?_
  refine (zero_add _).trans ?_
  unfold total addSq
  exact Fin.sum_mul_add_congr (L := 64) (n := 2) fun s u hl => rfl

end Cert.KernelIdeal.Hand

end
-- ==== Proof.Finite.lean ====
/- What the precondition says: no codebook entry is infinite, so that every entry less itself is zero. -/
module

public import proofs.«01_k».proof.Proof.Frames
public import proofs.«01_k».proof.Proof.KernelFold

@[expose] public section

set_option maxRecDepth 16384

noncomputable section

namespace Cert.Proof

open Idealize.ShloMosaic Idealize.ShloMosaic.TcCoe Idealize.SL.Sem

/-- A number whose absolute value is below infinity, less itself, is zero. -/
theorem sub_self_of_abs (x : EReal) (h : Ideal.cmp .olt (max x (-x)) (Ideal.ofBits .f32 0x7F800000#32) = 1#1) : x - x = 0 := by
  have ht : Ideal.ofBits .f32 0x7F800000#32 = (⊤ : EReal) := Cert.KernelIdeal.Hand.ofBits_inf
  rw [ht] at h
  have hlt : max x (-x) < ⊤ := by
    by_contra hn
    simp [Ideal.cmp, hn] at h
  induction x with
  | bot => simp at hlt
  | top => simp at hlt
  | coe r => rw [← EReal.coe_sub, sub_self]; rfl

/-- Under the precondition every codebook entry less itself is zero. -/
theorem finite_of_pre (m : (ℓ : Loc Cert.KernelIdeal.nD Cert.KernelIdeal.τ Cert.KernelIdeal.sig) → Buf (Elt Ideal) ℓ)
    (h : Cert.Pre_KernelIdeal_finite_codebook (hPre_finite_codebook := preFacts) m) (c : Dev Cert.KernelIdeal.nD) :
    Cert.KernelIdeal.Hand.Fin0 m c := fun k d =>
  sub_self_of_abs _ (congrFun (h c) (ix2 k d))

end Cert.Proof

end
-- ==== Proof.RefValue.lean ====
/- What the reference computes, element by element over the extended reals. -/
module

public import proofs.«01_k».proof.Proof.RefRun
public import proofs.«01_k».proof.Proof.Near
public import Idealize.ShloMosaic.Lib.Claim
public import Idealize.ShloMosaic.Lib.Pipeline.ValueKit
public import Idealize.ShloMosaic.Lib.Pointwise
public import Idealize.ShloMosaic.Lib.Routing.Ops

@[expose] public section

set_option maxRecDepth 16384

noncomputable section

namespace Cert.ReferenceIdeal.Hand

open Cert.ReferenceIdeal Cert.ReferenceIdeal.Gen Cert.Near Idealize.ShloMosaic Idealize.ShloMosaic.TcCoe Idealize.SL.Sem

/-- The squared distance of a point to a code. -/
theorem dist_apply (x : FVec Ideal S64x1024x32 .f32) (c : FVec Ideal S1024x32 .f32) (r : Fin 65536) (k : Fin 1024) :
    distT (F := Ideal) x c (ix2 r k)
      = ∑ d : Fin 32, x (ix3 (⟨r.val / 1024, by omega⟩ : Fin 64) (⟨r.val % 1024, by omega⟩ : Fin 1024) d) * x (ix3 (⟨r.val / 1024, by omega⟩ : Fin 64) (⟨r.val % 1024, by omega⟩ : Fin 1024) d)
        - ∑ d : Fin 32, Ideal.ofBits .f32 0x40000000#32 * x (ix3 (⟨r.val / 1024, by omega⟩ : Fin 64) (⟨r.val % 1024, by omega⟩ : Fin 1024) d) * c (ix2 k d)
        + ∑ d : Fin 32, c (ix2 k d) * c (ix2 k d) := by
  pointwise [distT]

/-- The reducer, its comparisons decided: the smaller value, and at equal values the smaller index. -/
theorem reducer_eq (a b : EReal × BitVec 32) : reducer_argmin_f32_i32 (F := Ideal) a b
    = (if a.1 < b.1 then a.1 else b.1, if a.1 < b.1 ∨ a.1 = b.1 ∧ a.2.toInt < b.2.toInt then a.2 else b.2) := by
  have e1 : FloatOps.cmpf (F := Ideal) (φ := .f32) .olt a.1 b.1 = if a.1 < b.1 then 1#1 else 0#1 := by
    rw [Ideal.cmpf_def]; by_cases h : a.1 < b.1 <;> simp [Ideal.cmp, h]
  have e2 : FloatOps.cmpf (F := Ideal) (φ := .f32) .une a.1 a.1 = 0#1 := by
    rw [Ideal.cmpf_def]; simp [Ideal.cmp]
  have e3 : FloatOps.cmpf (F := Ideal) (φ := .f32) .oeq a.1 b.1 = if a.1 = b.1 then 1#1 else 0#1 := by
    rw [Ideal.cmpf_def]; by_cases h : a.1 = b.1 <;> simp [Ideal.cmp, h]
  have e4 : IntOp.cmpi .slt a.2 b.2 = if a.2.toInt < b.2.toInt then 1#1 else 0#1 := by
    simp only [IntOp.cmpi, BitVec.slt_eq_decide]; by_cases h : a.2.toInt < b.2.toInt <;> simp [h]
  simp only [reducer_argmin_f32_i32]
  rw [e1, e2, e3, e4]
  generalize a.1 = u; generalize b.1 = v; generalize a.2 = i; generalize b.2 = j
  by_cases h1 : u < v
  · by_cases h3 : u = v
    · exact absurd h3 (ne_of_lt h1)
    · rw [if_pos h1, if_pos h1, if_pos (Or.inl h1), if_neg h3]
      by_cases h4 : i.toInt < j.toInt
      · rw [if_pos h4]; rfl
      · rw [if_neg h4]; rfl
  · by_cases h3 : u = v
    · by_cases h4 : i.toInt < j.toInt
      · rw [if_neg h1, if_neg h1, if_pos (Or.inr ⟨h3, h4⟩), if_pos h3, if_pos h4]; rfl
      · rw [if_neg h1, if_neg h1, if_neg (show ¬(u < v ∨ u = v ∧ i.toInt < j.toInt) from fun h => h.elim h1 fun h => h4 h.2), if_pos h3, if_neg h4]; rfl
    · rw [if_neg h1, if_neg h1, if_neg (show ¬(u < v ∨ u = v ∧ i.toInt < j.toInt) from fun h => h.elim h1 fun h => h3 h.1), if_neg h3]
      by_cases h4 : i.toInt < j.toInt
      · rw [if_pos h4]; rfl
      · rw [if_neg h4]; rfl

/-- The reducer keeps one of its operands. -/
theorem reducer_cases (a b : EReal × BitVec 32) :
    reducer_argmin_f32_i32 (F := Ideal) a b = a ∨ reducer_argmin_f32_i32 (F := Ideal) a b = b := by
  rw [reducer_eq]
  by_cases h1 : a.1 < b.1
  · left; simp [h1]
  · by_cases h2 : a.1 = b.1 ∧ a.2.toInt < b.2.toInt
    · left; rw [if_neg h1, if_pos (Or.inr h2)]; exact Prod.ext h2.1.symm rfl
    · right; rw [if_neg h1, if_neg (fun h => h.elim h1 h2)]

/-- The reducer's result is no larger than its first operand. -/
theorem reducer_left (a b : EReal × BitVec 32) : Le (reducer_argmin_f32_i32 (F := Ideal) a b) a := by
  rw [reducer_eq]
  by_cases h1 : a.1 < b.1
  · rw [if_pos h1, if_pos (Or.inl h1)]; exact Or.inr ⟨rfl, le_rfl⟩
  · by_cases h2 : a.1 = b.1
    · refine Or.inr ⟨by rw [if_neg h1]; exact h2.symm, ?_⟩
      dsimp only
      split
      · exact le_rfl
      · rename_i h; exact not_lt.1 fun h' => h (Or.inr ⟨h2, h'⟩)
    · refine Or.inl ?_
      rw [if_neg h1]; exact lt_of_le_of_ne (not_lt.1 h1) (Ne.symm h2)

/-- The reducer's result is no larger than its second operand. -/
theorem reducer_right (a b : EReal × BitVec 32) : Le (reducer_argmin_f32_i32 (F := Ideal) a b) b := by
  rw [reducer_eq]
  by_cases h1 : a.1 < b.1
  · refine Or.inl ?_; rw [if_pos h1]; exact h1
  · refine Or.inr ⟨by rw [if_neg h1], ?_⟩
    dsimp only
    split
    · rename_i h; rcases h with h | h
      · exact absurd h h1
      · exact le_of_lt h.2
    · exact le_rfl

/-- The fiber of an arg-reduction over one axis holds the pairs along that axis. -/
theorem mem_fiber_single {α β : Type} {s t : Shape} {a : Fin s.rank} (x : s.Idx → α) (y : s.Idx → β) (h' : s.ReducesTo [a] t)
    (h : s.Reduces [a] t) (j : t.Idx) (p : α × β) :
    p ∈ Host.argReduceFiber x y h' j ↔ ∃ k : Fin (s.size a), p = (x (h.lift j k), y (h.lift j k)) := by
  unfold Host.argReduceFiber
  rw [List.mem_map, Shape.ReducesTo.drop_eq_drop h' h]
  constructor
  · rintro ⟨n, hn, rfl⟩
    have hd : h.drop (s.rowMajor.symm n) = j := of_decide_eq_true (List.mem_filter.1 hn).2
    refine ⟨s.rowMajor.symm n a, ?_⟩
    rw [← hd, h.lift_drop]
  · rintro ⟨k, rfl⟩
    refine ⟨s.rowMajor (h.lift j k), List.mem_filter.2 ⟨List.mem_finRange _, decide_eq_true ?_⟩, ?_⟩
    · rw [Equiv.symm_apply_apply, h.drop_lift]
    · rw [Equiv.symm_apply_apply]

/-- Reducing a table of 65536 rows over its second axis leaves one value per row. -/
theorem reduces_S65536x1024_S65536 : S65536x1024.Reduces [1] S65536 := by decide

/-- The index over a point at a code is the point's row and the code's column. -/
theorem lift_eq (r : Fin 65536) (k : Fin 1024) : reduces_S65536x1024_S65536.lift (ix1 r) k = ix2 r k := by
  funext b
  match b with
  | ⟨0, _⟩ => exact Fin.ext rfl
  | ⟨1, _⟩ => exact Fin.ext rfl

/-- An arg-reduction over one axis of 1024 indices, by such a reducer from (+∞, 0), whose second array counts the axis, gives
    the word of the nearest index. -/
theorem arg_single {s t u : Shape} {a : Fin s.rank} (f : EReal × BitVec 32 → EReal × BitVec 32 → EReal × BitVec 32)
    (hf : ∀ a b, f a b = a ∨ f a b = b) (hl : ∀ a b, Le (f a b) a) (hr : ∀ a b, Le (f a b) b)
    (x : FVec Ideal s .f32) (y : s.Idx → BitVec 32) (ix : FVec Ideal u .f32) (iy : u.Idx → BitVec 32)
    (h' : s.ReducesTo [a] t) (h : s.Reduces [a] t) (hu : 0 < u.numel) (j : t.Idx)
    (hx : ix (Shape.Idx.first hu) = (⊤ : EReal)) (hy : iy (Shape.Idx.first hu) = 0#32) (d : Fin 1024 → EReal)
    (hs : s.size a = 1024) (hd : ∀ k, x (h.lift j k) = d (Fin.cast hs k)) (hk : ∀ k, y (h.lift j k) = BitVec.ofNat 32 k.val)
    (g : t.Idx → BitVec 32) (hg : g = fun j => (Host.argReduce (F := Ideal) (φ := .f32) f x y ix iy h' hu j).2) :
    g j = BitVec.ofNat 32 (near d).val := by
  subst hg
  show (Host.argReduce (F := Ideal) (φ := .f32) f x y ix iy h' hu j).2 = _
  rw [Ideal.argReduce_eq_reduce2, Host.reduce2_eq_foldl_fiber, hx, hy]
  refine foldl_eq f hf hl hr d _ (fun k => ?_) fun p hp => ?_
  · exact (mem_fiber_single x y h' h j _).2 ⟨Fin.cast hs.symm k, by rw [hd, hk]; rfl⟩
  · obtain ⟨k, hkp⟩ := (mem_fiber_single x y h' h j p).1 hp
    exact ⟨Fin.cast hs k, by rw [hkp, hd, hk]; rfl⟩

/-- What the arg-min is, as a function. -/
theorem argT_eq (d : FVec Ideal S65536x1024 .f32) : argT (F := Ideal) d = fun j =>
    (Host.argReduce (F := Ideal) (φ := .f32) reducer_argmin_f32_i32 d (iotaInDim S65536x1024 32 1) (constant S_ .f32 0x7F800000#32) (constantI S_ 32 0#32)
      reducesTo_S65536x1024_S65536_d1 h_S_ j).2 := rfl

/-- The minimum starts from infinity. -/
theorem top_first : constant (F := Ideal) S_ .f32 0x7F800000#32 (Shape.Idx.first h_S_) = (⊤ : EReal) := by
  show Ideal.ofBits .f32 0x7F800000#32 = ⊤
  simp [Ideal.ofBits, Ideal.ieee]

/-- The index starts from zero. -/
theorem zero_first : constantI S_ 32 0#32 (Shape.Idx.first h_S_) = 0#32 := rfl

/-- The table has 1024 columns. -/
theorem size_one : S65536x1024.size 1 = 1024 := rfl

/-- The index at a column is the number of the column. -/
theorem iota_lift (r : Fin 65536) (k : Fin (S65536x1024.size 1)) :
    iotaInDim S65536x1024 32 1 (reduces_S65536x1024_S65536.lift (ix1 r) k) = BitVec.ofNat 32 k.val := by
  rw [lift_eq r k]; rfl

/-- The entry that a reduction of a row meets at a column is the entry of that row and column. -/
theorem d_lift (d : FVec Ideal S65536x1024 .f32) (r : Fin 65536) (k : Fin (S65536x1024.size 1)) :
    d (reduces_S65536x1024_S65536.lift (ix1 r) k) = (fun k : Fin 1024 => d (ix2 r k)) (Fin.cast size_one k) := by
  rw [lift_eq r k]; rfl

/-- The arg-min is the word of the nearest index. -/
theorem arg_apply (d : FVec Ideal S65536x1024 .f32) (r : Fin 65536) :
    argT (F := Ideal) d (ix1 r) = BitVec.ofNat 32 (near fun k : Fin 1024 => d (ix2 r k)).val :=
  arg_single (s := S65536x1024) (t := S65536) (reducer_argmin_f32_i32 (F := Ideal)) reducer_cases reducer_left reducer_right d (iotaInDim S65536x1024 32 1)
    (constant (F := Ideal) S_ .f32 0x7F800000#32) (constantI S_ 32 0#32) reducesTo_S65536x1024_S65536_d1 reduces_S65536x1024_S65536 h_S_ (ix1 r)
    top_first zero_first (fun k : Fin 1024 => d (ix2 r k)) size_one
    (d_lift d r) (iota_lift r) (argT d) (argT_eq d)

/-- An index in range is its own wrapped index. -/
theorem wrap_apply (i : IVec S65536 32) (r : Fin 65536) (u : Fin 1) (k : Fin 1024) (h : i (ix1 r) = BitVec.ofNat 32 k.val) :
    wrapT i (ix2 r u) = BitVec.ofNat 32 k.val := by
  have e : wrapT i (ix2 r u) = Scalar.select (IntOp.cmpi .slt (i (ix1 r)) 0#32) (IntOp.addi (i (ix1 r)) 1024#32) (i (ix1 r)) := by
    pointwise [wrapT]
  rw [e, h]
  exact (by decide +kernel : ∀ k : Fin 1024, Scalar.select (IntOp.cmpi .slt (BitVec.ofNat 32 k.val) 0#32)
    (IntOp.addi (BitVec.ofNat 32 k.val) 1024#32) (BitVec.ofNat 32 k.val) = BitVec.ofNat 32 k.val) k

/-- A row of the codebook, gathered at an index in range. -/
theorem take_apply (c : FVec Ideal S1024x32 .f32) (i : IVec S65536 32) (r : Fin 65536) (d : Fin 32) (k : Fin 1024)
    (h : i (ix1 r) = BitVec.ofNat 32 k.val) : takeT (F := Ideal) c i (ix2 r d) = c (ix2 k d) := by
  have hg : Host.gather gather_S1024x32_S65536x1_S65536x32_1_0_n_n_0_1_132 c (wrapT i) (ix2 r d) = c (ix2 k d) :=
    Routing.gather_row _ rfl rfl rfl rfl rfl c _ r d k (wrap_apply i r 0 k h) (by decide)
  have e : takeT (F := Ideal) c i (ix2 r d) = Scalar.select
      (Finset.fold IntOp.andi (1#1)
        (fun u : Fin 1 => IntOp.andi (IntOp.cmpi .sge (wrapT i (ix2 r u)) 0#32) (IntOp.cmpi .sle (wrapT i (ix2 r u)) 1023#32))
        Finset.univ)
      (Host.gather gather_S1024x32_S65536x1_S65536x32_1_0_n_n_0_1_132 c (wrapT i) (ix2 r d))
      (Ideal.ofBits .f32 0x7FC00000#32) := by
    pointwise [takeT]
  rw [e, hg]
  have hm : (Finset.fold IntOp.andi (1#1)
      (fun u : Fin 1 => IntOp.andi (IntOp.cmpi .sge (wrapT i (ix2 r u)) 0#32) (IntOp.cmpi .sle (wrapT i (ix2 r u)) 1023#32))
      Finset.univ) = 1#1 := by
    simp only [wrap_apply i r _ k h]
    exact (by decide +kernel : ∀ k : Fin 1024, Finset.fold IntOp.andi (1#1)
      (fun _ : Fin 1 => IntOp.andi (IntOp.cmpi .sge (BitVec.ofNat 32 k.val) 0#32) (IntOp.cmpi .sle (BitVec.ofNat 32 k.val) 1023#32))
      Finset.univ = 1#1) k
  rw [hm]; rfl

end Cert.ReferenceIdeal.Hand

end
-- ==== Proof.RefMath.lean ====
/- The reference's three results as the mathematics of the quantizer. -/
module

public import proofs.«01_k».proof.Proof.RefValue
public import proofs.«01_k».proof.Proof.VQ

@[expose] public section

set_option maxRecDepth 16384

noncomputable section

namespace Cert.ReferenceIdeal.Hand

open Cert.ReferenceIdeal Cert.ReferenceIdeal.Gen Cert.Near Cert.VQ Idealize.ShloMosaic Idealize.ShloMosaic.TcCoe Idealize.SL.Sem

/-- The array of points, by its three coordinates. -/
def pts (x : FVec Ideal S64x1024x32 .f32) : Pts := fun b p d => x (ix3 b p d)

/-- The codebook, by its two coordinates. -/
def codes (c : FVec Ideal S1024x32 .f32) : Codes := fun k d => c (ix2 k d)

/-- The batch of a row of the flattened points. -/
def rowB (r : Fin 65536) : Fin 64 := ⟨r.val / 1024, by omega⟩

/-- The position of a row of the flattened points. -/
def rowP (r : Fin 65536) : Fin 1024 := ⟨r.val % 1024, by omega⟩

variable (x : FVec Ideal S64x1024x32 .f32) (c : FVec Ideal S1024x32 .f32)

/-- The distance of a row to a code. -/
theorem dist_eq (r : Fin 65536) (k : Fin 1024) : distT (F := Ideal) x c (ix2 r k) = distOf (pts x (rowB r) (rowP r)) (codes c) k := by
  rw [dist_apply]
  unfold distOf
  congr 2
  exact Fin.sum_fin_congr fun d => cross_eq _ _

/-- The index of a row's code. -/
theorem idx_eq (r : Fin 65536) : idxT (F := Ideal) x c (ix1 r) = BitVec.ofNat 32 (codeOf (pts x (rowB r) (rowP r)) (codes c)).val := by
  unfold idxT
  rw [arg_apply]
  have e : (fun k : Fin 1024 => distT (F := Ideal) x c (ix2 r k)) = distOf (pts x (rowB r) (rowP r)) (codes c) :=
    funext fun k => dist_eq x c r k
  rw [e, codeOf]

/-- A row's code. -/
theorem code_eq (r : Fin 65536) (d : Fin 32) :
    codeT (F := Ideal) x c (ix2 r d) = codes c (codeOf (pts x (rowB r) (rowP r)) (codes c)) d := by
  unfold codeT
  rw [take_apply c _ r d _ (idx_eq x c r), codes]

/-- The difference at a point. -/
theorem diff_eq (b : Fin 64) (p : Fin 1024) (d : Fin 32) :
    diffT (F := Ideal) x (codeT (F := Ideal) x c) (ix3 b p d) = errOf (pts x b p) (codes c) d := by
  have e : ∀ q : FVec Ideal S65536x32 .f32, diffT (F := Ideal) x q (ix3 b p d)
      = q (ix2 (⟨b.val * 1024 + p.val, by omega⟩ : Fin 65536) d) - x (ix3 b p d) := fun q => by
    pointwise [diffT]
  rw [e, code_eq]
  have hb : rowB ⟨b.val * 1024 + p.val, by omega⟩ = b := Fin.ext (by show (b.val * 1024 + p.val) / 1024 = b.val; omega)
  have hp : rowP ⟨b.val * 1024 + p.val, by omega⟩ = p := Fin.ext (by show (b.val * 1024 + p.val) % 1024 = p.val; omega)
  rw [hb, hp, errOf, pts]

/-- The straight-through output at a point. -/
theorem out_eq (b : Fin 64) (p : Fin 1024) (d : Fin 32) :
    outT (F := Ideal) x (codeT (F := Ideal) x c) (ix3 b p d) = x (ix3 b p d) + errOf (pts x b p) (codes c) d := by
  rw [← diff_eq]; rfl

/-- The loss. -/
theorem loss_ref (j : S_.Idx) : lossT (F := Ideal) x (codeT (F := Ideal) x c) j = loss (pts x) (codes c) := by
  have e : ∀ q : FVec Ideal S65536x32 .f32, meanT (F := Ideal) x q j
      = Ideal.div (∑ b : Fin 64, ∑ p : Fin 1024, ∑ d : Fin 32, diffT (F := Ideal) x q (ix3 b p d) * diffT (F := Ideal) x q (ix3 b p d))
          (Ideal.ofBits .f32 0x4A000000#32) := fun q => by
    pointwise [meanT]
  have e2 : ∀ q : FVec Ideal S65536x32 .f32, lossT (F := Ideal) x q j
      = meanT (F := Ideal) x q j + Ideal.ofBits .f32 0x3E800000#32 * meanT (F := Ideal) x q j := fun q => by
    pointwise [lossT]
  have et : (∑ b : Fin 64, ∑ p : Fin 1024, ∑ d : Fin 32, diffT (F := Ideal) x (codeT (F := Ideal) x c) (ix3 b p d) * diffT (F := Ideal) x (codeT (F := Ideal) x c) (ix3 b p d))
      = total (pts x) (codes c) := by
    unfold total
    refine Fin.sum_fin_congr fun b => Fin.sum_fin_congr fun p => Fin.sum_fin_congr fun d => ?_
    rw [diff_eq]
  rw [e2, e, et, loss_eq, loss]

/-- The comparison of two small words, as a number. -/
theorem hit_eq (i k : Fin 1024) :
    FloatOps.uitofp (F := Ideal) .f32 (IntOp.cmpi .eq (BitVec.ofNat 32 i.val) (BitVec.ofNat 32 k.val)) = if k = i then (1 : EReal) else 0 := by
  have hu : ∀ w : BitVec 1, FloatOps.uitofp (F := Ideal) .f32 w = ((w.toNat : ℝ) : EReal) := fun _ => rfl
  rw [hu]
  by_cases h : k = i
  · subst h
    rw [if_pos rfl]
    simp [IntOp.cmpi]
  · rw [if_neg h]
    have hne : BitVec.ofNat 32 i.val ≠ BitVec.ofNat 32 k.val := fun e =>
      h (Fin.ext (ofNat_inj_small (by omega) (by omega) e).symm)
    have hb : (BitVec.ofNat 32 i.val == BitVec.ofNat 32 k.val) = false := beq_eq_false_iff_ne.2 hne
    simp only [IntOp.cmpi, hb]
    simp

/-- The share of a code. -/
theorem prob_eq (k : Fin 1024) : probT (F := Ideal) (idxT (F := Ideal) x c) (ix1 k) = share (pts x) (codes c) k := by
  have e : ∀ i : IVec S65536 32, probT (F := Ideal) i (ix1 k)
      = Ideal.div (∑ r : Fin 65536, FloatOps.uitofp (F := Ideal) .f32 (IntOp.cmpi .eq (i (ix1 r)) (BitVec.ofNat 32 k.val)))
          (Ideal.ofBits .f32 0x47800000#32) := fun i => by
    pointwise [probT]
  have ec : (∑ r : Fin 65536, FloatOps.uitofp (F := Ideal) .f32 (IntOp.cmpi .eq (idxT (F := Ideal) x c (ix1 r)) (BitVec.ofNat 32 k.val)))
      = hits (pts x) (codes c) k := by
    unfold hits
    refine Fin.sum_divmod_congr (N := 65536) (A := 64) (S := 1024) fun r ha hs => ?_
    rw [idx_eq, hit_eq]; rfl
  rw [e, ec, share_eq, share]

/-- The perplexity. -/
theorem perp_ref (j : S_.Idx) : perpT (F := Ideal) (probT (F := Ideal) (idxT (F := Ideal) x c)) j = perplexity (pts x) (codes c) := by
  have e : ∀ p : FVec Ideal S1024 .f32, perpT (F := Ideal) p j
      = Ideal.exp (-∑ k : Fin 1024, p (ix1 k) * Ideal.log (p (ix1 k) + Ideal.ofBits .f32 0x2EDBE6FF#32)) := fun p => by
    pointwise [perpT]
  rw [e, perplexity, zero_sub]
  congr 2
  refine Fin.sum_fin_congr fun k => ?_
  rw [prob_eq]

end Cert.ReferenceIdeal.Hand

end
-- ==== Proof.KernelArray.lean ====
/- The kernel's three output arrays after the run, of the two arguments. -/
module

public import proofs.«01_k».proof.Proof.KernelFold

@[expose] public section

set_option maxRecDepth 16384

noncomputable section

namespace Cert.KernelIdeal.Hand

open Cert.KernelIdeal Cert.KernelIdeal.Gen Cert.Near Cert.VQ Idealize.ShloMosaic Idealize.ShloMosaic.TcCoe Idealize.SL.Sem

variable {m : (ℓ : Loc nD τ sig) → Buf (Elt Ideal) ℓ}

/-- The output array: every point plus its difference from its code, coordinates before positions. -/
def outArr (m : (ℓ : Loc nD τ sig) → Buf (Elt Ideal) ℓ) (c : Dev nD) : FVec Ideal S64x32x1024 .f32 := fun i =>
  ptsOf m c (i 0) (i 2) (i 1) + errOf (ptsOf m c (i 0) (i 2)) (codesOf m c) (i 1)

/-- The value a grid point writes for a position is the output array's there. -/
theorem put_eq (c : Dev nD) (t : Fin cfg0.N) (u : Fin 2) (d : Fin 32) (p : Fin 1024) (i : S64x32x1024.Idx)
    (i0 : (i 0).val = t.val * 2 + u.val) (i1 : (i 1).val = d.val) (i2 : (i 2).val = p.val) :
    two m c t u p d + errOf (two m c t u p) (codesOf m c) d = outArr m c i := by
  have e0 : i 0 = (⟨t.val * 2 + u.val, batch_lt t u⟩ : Fin 64) := Fin.ext i0
  have e1 : i 1 = d := Fin.ext i1
  have e2 : i 2 = p := Fin.ext i2
  unfold outArr
  rw [e0, e1, e2]
  rfl

/-- What a grid point writes to the output block: the first point, the points between, and the last. -/
theorem point {c : Dev nD} (hf : Fin0 m c) (t : Fin cfg0.N) (y : S2x32x1024.Idx) (i : S64x32x1024.Idx)
    (i0 : (i 0).val = t.val * 2 + (y 0).val) (i1 : (i 1).val = (y 1).val) (i2 : (i 2).val = (y 2).val) :
    (outsAt0 m c t.val t.isLt).1 y = outArr m c i := by
  by_cases g0 : t.val % 32 = 0
  · rw [outsAt0_A m c t g0 (by omega)]; frame_out
    canon_tiles x h
    all_goals rw [eq_ix3 x]
    · exact ((loads hf t _ _ (fun d p => by pointwise) (fun d p => by pointwise)).out1 _ _ _).trans
        (put_eq c t 1 _ _ i (by show _ = t.val * 2 + 1; omega) (by omega) (by omega))
    · exact ((loads hf t _ _ (fun d p => by pointwise) (fun d p => by pointwise)).out0 _ _ _).trans
        (put_eq c t 0 _ _ i (by show _ = t.val * 2 + 0; omega) (by omega) (by omega))
  · by_cases g1 : t.val % 32 = 31
    · rw [outsAt0_C m c t g0 g1]; frame_out
      canon_tiles x h
      all_goals rw [eq_ix3 x]
      · exact ((loads hf t _ _ (fun d p => by pointwise) (fun d p => by pointwise)).out1 _ _ _).trans
          (put_eq c t 1 _ _ i (by show _ = t.val * 2 + 1; omega) (by omega) (by omega))
      · exact ((loads hf t _ _ (fun d p => by pointwise) (fun d p => by pointwise)).out0 _ _ _).trans
          (put_eq c t 0 _ _ i (by show _ = t.val * 2 + 0; omega) (by omega) (by omega))
    · rw [outsAt0_B m c t g0 g1]; frame_out
      canon_tiles x h
      all_goals rw [eq_ix3 x]
      · exact ((loads hf t _ _ (fun d p => by pointwise) (fun d p => by pointwise)).out1 _ _ _).trans
          (put_eq c t 1 _ _ i (by show _ = t.val * 2 + 1; omega) (by omega) (by omega))
      · exact ((loads hf t _ _ (fun d p => by pointwise) (fun d p => by pointwise)).out0 _ _ _).trans
          (put_eq c t 0 _ _ i (by show _ = t.val * 2 + 0; omega) (by omega) (by omega))

/-- The first output array. -/
theorem final4 {c : Dev nD} (hf : Fin0 m c) : (dats m 0 c).arrAt 4 (cfgs 0).N = outArr m c := by
  refine (dats m 0 c).arrAt_eq_of_covers 4 _ (by decide +kernel) fun t hfl y => ?_
  blk_simp
  rw [after0_4]
  have hi := (idx t).2.2.2.2.1
  refine point hf t y _ ?_ ?_ ?_
  · blk_simp [hi]
  · blk_simp [hi]
  · blk_simp [hi]

/-- The second output array: the loss. -/
theorem final5 {c : Dev nD} (hf : Fin0 m c) : (dats m 0 c).arrAt 5 (cfgs 0).N = fun _ => loss (ptsOf m c) (codesOf m c) := by
  refine (dats m 0 c).arrAt_eq_of_covers 5 _ (by decide +kernel) fun t hfl y => ?_
  blk_simp
  have h1 := (flush0_5 t).mp hfl
  have h0 : ¬ t.val % 32 = 0 := by omega
  have hs := sq_last hf t h1 (Shape.Idx.first (by decide))
  rw [after0_5]
  rw [outsAt0_C m c t h0 h1] at hs ⊢
  revert hs
  frame_out
  intro hs
  refine (congrArg (k0_pay7 (F := Ideal)) hs).trans ?_
  rw [loss_apply, loss]

/-- The third output array: the perplexity. -/
theorem final6 {c : Dev nD} (hf : Fin0 m c) : (dats m 0 c).arrAt 6 (cfgs 0).N = fun _ => perplexity (ptsOf m c) (codesOf m c) := by
  refine (dats m 0 c).arrAt_eq_of_covers 6 _ (by decide +kernel) fun t hfl y => ?_
  blk_simp
  have h1 := (flush0_6 t).mp hfl
  have h0 : ¬ t.val % 32 = 0 := by omega
  have hs := fun k => hits_last hf t h1 k
  rw [after0_6]
  rw [outsAt0_C m c t h0 h1] at hs ⊢
  revert hs
  frame_out
  intro hs
  refine (perp_apply _ _ hs).trans ?_
  unfold perplexity share
  rfl

end Cert.KernelIdeal.Hand

end
-- ==== Proof.KernelEnd.lean ====
/- What the host lines after the kernel leave in its three result buffers. -/
module

public import proofs.«01_k».proof.Proof.KernelArray

@[expose] public section

set_option maxRecDepth 16384

noncomputable section

namespace Cert.KernelIdeal.Hand

open Cert.KernelIdeal Cert.KernelIdeal.Gen Cert.Near Cert.VQ Idealize.ShloMosaic Idealize.ShloMosaic.TcCoe Idealize.SL.Sem

variable {m : (ℓ : Loc nD τ sig) → Buf (Elt Ideal) ℓ}

/-- The first result is the kernel's output array with its last two axes exchanged. -/
theorem end15 {c : Dev nD} (hf : Fin0 m c) :
    Pipeline.afterTail₀ cfgs (dats m) 0 (V0 m) [hostOps1] c main_v15
      = transpose S64x1024x32 [0, 2, 1] (outArr m c) transposes_S64x32x1024_S64x1024x32_0_2_1 := by
  unfold Pipeline.afterTail₀
  show StableHlo.after hostOps1 _ _ = _
  after_results_simp
  exact congrArg (fun z : FVec Ideal S64x32x1024 .f32 => transpose S64x1024x32 [0, 2, 1] z transposes_S64x32x1024_S64x1024x32_0_2_1)
    ((Pipeline.withArrays_arr spec0 launch0.win.arr_inj c (V0 m c) (fun w => (dats m 0 c).arrAt w (cfgs 0).N) 4).trans (final4 hf))

/-- The second result is the loss. -/
theorem end16 {c : Dev nD} (hf : Fin0 m c) :
    Pipeline.afterTail₀ cfgs (dats m) 0 (V0 m) [hostOps1] c main_v16 = fun _ => loss (ptsOf m c) (codesOf m c) := by
  unfold Pipeline.afterTail₀
  show StableHlo.after hostOps1 _ _ = _
  after_results_simp
  funext j
  exact congrFun ((Pipeline.withArrays_arr spec0 launch0.win.arr_inj c (V0 m c) (fun w => (dats m 0 c).arrAt w (cfgs 0).N) 5).trans (final5 hf)) _

/-- The third result is the perplexity. -/
theorem end17 {c : Dev nD} (hf : Fin0 m c) :
    Pipeline.afterTail₀ cfgs (dats m) 0 (V0 m) [hostOps1] c main_v17 = fun _ => perplexity (ptsOf m c) (codesOf m c) := by
  unfold Pipeline.afterTail₀
  show StableHlo.after hostOps1 _ _ = _
  after_results_simp
  funext j
  exact congrFun ((Pipeline.withArrays_arr spec0 launch0.win.arr_inj c (V0 m c) (fun w => (dats m 0 c).arrAt w (cfgs 0).N) 6).trans (final6 hf)) _

end Cert.KernelIdeal.Hand

end
-- ==== Proof.lean ====
/- The certificate: the frames of the three programs, and that kernel and reference compute the same output, loss and
   perplexity over the extended reals where no codebook entry is infinite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Finite
public import proofs.«01_k».proof.Proof.RefMath
public import proofs.«01_k».proof.Proof.KernelEnd
public import Idealize.ShloMosaic.Adequacy
public import Idealize.ShloMosaic.Init

@[expose] public section

set_option maxRecDepth 16384

noncomputable section

namespace Cert.Proof

open Idealize.ShloMosaic Idealize.SL.Sem

/-- Where no codebook entry is infinite, the kernel and the reference return the same output, the same loss and the same
    perplexity over the extended reals, whatever the inputs, and both leave their arguments unchanged. -/
theorem algebraic : Cert.algebraic_KernelIdeal_ReferenceIdeal_pre_finite_codebook (hPre_finite_codebook := preFacts) := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
  · have hf := fun c => finite_of_pre m hpre c
    run_from Cert.ReferenceIdeal.Hand.run m' g'
    · rw [Cert.KernelIdeal.Hand.end15 (hf c)]
      funext i
      rw [eq_ix3 i]
      refine (Cert.ReferenceIdeal.Hand.out_eq _ _ (i 0) (i 1) (i 2)).trans ?_
      pointwise
      exact congrArg (fun j => Cert.KernelIdeal.Hand.argX m c j
        + Cert.VQ.errOf (Cert.KernelIdeal.Hand.ptsOf m c (i 0) (i 1)) (Cert.KernelIdeal.Hand.codesOf m c) (i 2)) (eq_ix3 i)
    · rw [Cert.KernelIdeal.Hand.end16 (hf c)]
      funext j
      exact Cert.ReferenceIdeal.Hand.loss_ref _ _ j
    · rw [Cert.KernelIdeal.Hand.end17 (hf c)]
      funext j
      exact Cert.ReferenceIdeal.Hand.perp_ref _ _ j

/-- The certificate's claim. -/
theorem claim : Cert.Claim := ⟨Cert.Kernel.Gen.facts, Cert.KernelIdeal.Gen.facts, Cert.ReferenceIdeal.Gen.facts, preFacts,
  frames.1, frames.2.1, fun m g _ => frames.2.1 m g trivial, frames.2.2.1, fun m g _ => frames.2.2.1 m g trivial, frames.2.2.2, algebraic⟩

end Cert.Proof

end
